-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![3072, 3072]⟩ ⟨2, ![6144, 6144]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![3072, 3072]⟩ ⟨2, ![6144, 6144]⟩ (Layout.meshBlock [2, 2] ![[0], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3072x3072 : Shape := ⟨2, ![3072, 3072]⟩
abbrev S2x528x3072 : Shape := ⟨3, ![2, 528, 3072]⟩
abbrev S2x512x3072 : Shape := ⟨3, ![2, 512, 3072]⟩
abbrev S8x3072 : Shape := ⟨2, ![8, 3072]⟩
abbrev S3072x128 : Shape := ⟨2, ![3072, 128]⟩
abbrev S3072x256 : Shape := ⟨2, ![3072, 256]⟩
abbrev S16x3072 : Shape := ⟨2, ![16, 3072]⟩
abbrev S1x3072 : Shape := ⟨2, ![1, 3072]⟩
abbrev S3072x1 : Shape := ⟨2, ![3072, 1]⟩
abbrev S2 : Shape := ⟨1, ![2]⟩
abbrev S_ : Shape := ⟨0, ![]⟩
abbrev S1 : Shape := ⟨1, ![1]⟩
abbrev S1x520x3072 : Shape := ⟨3, ![1, 520, 3072]⟩
abbrev S520x3072 : Shape := ⟨2, ![520, 3072]⟩
abbrev S1x528x3072 : Shape := ⟨3, ![1, 528, 3072]⟩
abbrev S528x3072 : Shape := ⟨2, ![528, 3072]⟩
abbrev S512x3072 : Shape := ⟨2, ![512, 3072]⟩
abbrev S512x1 : Shape := ⟨2, ![512, 1]⟩
abbrev S512x3071 : Shape := ⟨2, ![512, 3071]⟩
abbrev S1x512x3072 : Shape := ⟨3, ![1, 512, 3072]⟩
abbrev S1x512x1 : Shape := ⟨3, ![1, 512, 1]⟩
abbrev S1x1x3072 : Shape := ⟨3, ![1, 1, 3072]⟩
abbrev S1x2x3072 : Shape := ⟨3, ![1, 2, 3072]⟩
abbrev S1x128 : Shape := ⟨2, ![1, 128]⟩
abbrev S3071x128 : Shape := ⟨2, ![3071, 128]⟩
abbrev S3072x127 : Shape := ⟨2, ![3072, 127]⟩
abbrev S2x128 : Shape := ⟨2, ![2, 128]⟩
abbrev S7x3072 : Shape := ⟨2, ![7, 3072]⟩
abbrev S8x1 : Shape := ⟨2, ![8, 1]⟩
abbrev S8x3071 : Shape := ⟨2, ![8, 3071]⟩

abbrev nBuf : Space → Nat
  | .hbm => 2
  | .vmem => 12
  | .smem => 0
  | _ => 0

abbrev bufTy : (tb : Table) → Fin (tcTables nBuf tb) → BufTy
  | .hbm, ⟨0, _⟩ => ⟨S3072x3072, .f32⟩
  | .hbm, ⟨1, _⟩ => ⟨S3072x3072, .bf16⟩
  | .local _ .vmem, ⟨0, _⟩ => ⟨S2x528x3072, .f32⟩
  | .local _ .vmem, ⟨1, _⟩ => ⟨S2x512x3072, .bf16⟩
  | .local _ .vmem, ⟨2, _⟩ => ⟨S8x3072, .f32⟩
  | .local _ .vmem, ⟨3, _⟩ => ⟨S3072x128, .f32⟩
  | .local _ .vmem, ⟨4, _⟩ => ⟨S3072x256, .f32⟩
  | .local _ .vmem, ⟨5, _⟩ => ⟨S16x3072, .f32⟩
  | .local _ .vmem, ⟨6, _⟩ => ⟨S1x3072, .f32⟩
  | .local _ .vmem, ⟨7, _⟩ => ⟨S3072x1, .f32⟩
  | .local _ .vmem, ⟨8, _⟩ => ⟨S1x3072, .f32⟩
  | .local _ .vmem, ⟨9, _⟩ => ⟨S3072x1, .f32⟩
  | .local _ .vmem, ⟨10, _⟩ => ⟨S3072x128, .bf16⟩
  | .local _ .vmem, ⟨11, _⟩ => ⟨S8x3072, .bf16⟩
  | _, _ => ⟨S3072x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_2 v2
  let c2_i32_4 : BitVec 32 := 2#32
  let v8 : BitVec 32 := Scalar.muli v7 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_6 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v12 : BitVec 32 := Scalar.subi c1_i32_6 v5
  let c1_i32_10 : BitVec 32 := 1#32
  let v15 : BitVec 32 := Scalar.muli v12 c1_i32_10
  let v16 : BitVec 32 := Scalar.addi v14 v15
  v16.toNat
def k0_off1 (d0 : Dev nD) : Fin 2 → Nat :=
  let c1_i32_12 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v17 : BitVec 32 := Scalar.subi c1_i32_12 v2
  let c3064_i32 : BitVec 32 := 3064#32
  let v18 : BitVec 32 := Scalar.muli v17 c3064_i32
  let c0_i32_17 : BitVec 32 := 0#32
  ![v18.toNat, 0]
def k0_off2 (d0 : Dev nD) : Fin 2 → Nat :=
  let c0_i32_19 : BitVec 32 := 0#32
  let c1_i32_13 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v19 : BitVec 32 := Scalar.subi c1_i32_13 v5
  let c2944_i32 : BitVec 32 := 2944#32
  let v20 : BitVec 32 := Scalar.muli v19 c2944_i32
  ![0, v20.toNat]
def k0_off3 (d0 : Dev nD) : Fin 2 → Nat :=
  let c0_i32_21 : BitVec 32 := 0#32
  let c1_i32_14 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v21 : BitVec 32 := Scalar.subi c1_i32_14 v5
  let c2816_i32 : BitVec 32 := 2816#32
  let v22 : BitVec 32 := Scalar.muli v21 c2816_i32
  ![0, v22.toNat]
def k0_off4 (d0 : Dev nD) : Fin 2 → Nat :=
  let c1_i32_15 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v23 : BitVec 32 := Scalar.subi c1_i32_15 v2
  let c3056_i32 : BitVec 32 := 3056#32
  let v24 : BitVec 32 := Scalar.muli v23 c3056_i32
  let c0_i32_23 : BitVec 32 := 0#32
  ![v24.toNat, 0]
def k0_dev3 (d0 : Dev nD) : Nat :=
  let c0_i32_42 : BitVec 32 := 0#32
  let c1_i32_37 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v59 : BitVec 32 := Scalar.subi c1_i32_37 v2
  let c2_i32_41 : BitVec 32 := 2#32
  let v61 : BitVec 32 := Scalar.muli v59 c2_i32_41
  let v62 : BitVec 32 := Scalar.addi c0_i32_42 v61
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_43 : BitVec 32 := 1#32
  let v63 : BitVec 32 := Scalar.muli v5 c1_i32_43
  let v64 : BitVec 32 := Scalar.addi v62 v63
  v64.toNat
def k0_dev4 (d0 : Dev nD) : Nat :=
  let c0_i32_47 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_46 : BitVec 32 := 2#32
  let v69 : BitVec 32 := Scalar.muli v2 c2_i32_46
  let v70 : BitVec 32 := Scalar.addi c0_i32_47 v69
  let c1_i32_38 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v60 : BitVec 32 := Scalar.subi c1_i32_38 v5
  let c1_i32_48 : BitVec 32 := 1#32
  let v71 : BitVec 32 := Scalar.muli v60 c1_i32_48
  let v72 : BitVec 32 := Scalar.addi v70 v71
  v72.toNat
-- ==== ReferenceIdeal.lean ====
abbrev S6144x6144 : Shape := ⟨2, ![6144, 6144]⟩
abbrev S6142x6142 : Shape := ⟨2, ![6142, 6142]⟩
abbrev S_ : Shape := ⟨0, ![]⟩
abbrev S1 : Shape := ⟨1, ![1]⟩
abbrev S2 : Shape := ⟨1, ![2]⟩

abbrev nBuf : Space → Nat
  | .hbm => 32
  | .vmem => 0
  | .smem => 0
  | _ => 0

abbrev bufTy : (tb : Table) → Fin (tcTables nBuf tb) → BufTy
  | .hbm, ⟨0, _⟩ => ⟨S6144x6144, .f32⟩
  | .hbm, ⟨1, _⟩ => ⟨S6142x6142, .f32⟩
  | .hbm, ⟨2, _⟩ => ⟨S_, .f32⟩
  | .hbm, ⟨3, _⟩ => ⟨S6142x6142, .f32⟩
  | .hbm, ⟨4, _⟩ => ⟨S6142x6142, .f32⟩
  | .hbm, ⟨5, _⟩ => ⟨S6142x6142, .f32⟩
  | .hbm, ⟨6, _⟩ => ⟨S_, .f32⟩
  | .hbm, ⟨7, _⟩ => ⟨S6142x6142, .f32⟩
  | .hbm, ⟨8, _⟩ => ⟨S6142x6142, .f32⟩
  | .hbm, ⟨9, _⟩ => ⟨S6142x6142, .f32⟩
  | .hbm, ⟨10, _⟩ => ⟨S6142x6142, .f32⟩
  | .hbm, ⟨11, _⟩ => ⟨S_, .f32⟩
  | .hbm, ⟨12, _⟩ => ⟨S6142x6142, .f32⟩
  | .hbm, ⟨13, _⟩ => ⟨S6142x6142, .f32⟩
  | .hbm, ⟨14, _⟩ => ⟨S6142x6142, .f32⟩
  | .hbm, ⟨15, _⟩ => ⟨S6142x6142, .f32⟩
  | .hbm, ⟨16, _⟩ => ⟨S_, .f32⟩
  | .hbm, ⟨17, _⟩ => ⟨S6142x6142, .f32⟩
  | .hbm, ⟨18, _⟩ => ⟨S6142x6142, .f32⟩
  | .hbm, ⟨19, _⟩ => ⟨S6142x6142, .f32⟩
  | .hbm, ⟨20, _⟩ => ⟨S6142x6142, .f32⟩
  | .hbm, ⟨21, _⟩ => ⟨S_, .f32⟩
  | .hbm, ⟨22, _⟩ => ⟨S6142x6142, .f32⟩
  | .hbm, ⟨23, _⟩ => ⟨S6142x6142, .f32⟩
  | .hbm, ⟨24, _⟩ => ⟨S6142x6142, .f32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S2, .i32⟩
  | .hbm, ⟨30, _⟩ => ⟨S6144x6144, .f32⟩
  | .hbm, ⟨31, _⟩ => ⟨S6144x6144, .bf16⟩
  | _, _ => ⟨S6144x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_2 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_3 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_v19 : Ref sig .tc := ⟨.hbm, 26, rfl⟩
abbrev main_c_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Proof.KernelIdeal.Proto.lean ====
/-
The cross-device protocol of the kernel, written down as a schedule of rounds.

The mesh is 2 by 2; device `c` stands at row `c / 2` and column `c % 2`. `rx c` is the device above or below it, `cy c` the
one beside it. Every cell has one round:

* the barrier cell of `c`: one unit from `rx c`, which hands over its row landing buffer, and one from `cy c`, which
  hands over its column landing buffer; `c` waits for both;
* the row arrival cell of `c`: the edge row of `rx c`, landed in the row landing buffer;
* the column arrival cell of `c`: the edge column of `cy c`, landed in the column landing buffer;
* the two departure cells of `c`: the buffers it sent from.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.WriteMode
public import Idealize.ShloMosaic.Lib.Tactic

@[expose] public section

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost algebra: the launch's, the rounds', the write mode's and the local transfers' counters -/

/-- The rounds' algebra, one duty per Boolean. -/
abbrev UB : Type := URounds (GSem nD τ sig) Bool
/-- The rounds', then write mode's at values `Val`, then the counters'. -/
abbrev UV (Val : EltTy → Type) : Type := UB × (WmRA nD τ sig Val × Counters)
/-- All of it. -/
abbrev UU (Val : EltTy → Type) : Type := UR sig nD τ × UV Val

local notation "𝕄" => MT nD τ sig Unit (Elt F) ℕ (UU (Elt F)) ℕ

abbrev EP : Emb (UR sig nD τ) (MT nD τ sig Unit (Elt F) ℕ (UU (Elt F)) ℕ) := embL
/-- Where the rounds' algebra sits. -/
abbrev ERu : UEmb UB (UU (Elt F)) := (UEmb.inl : UEmb UB (UV (Elt F))).trans UEmb.inr
abbrev ER : Emb UB (MT nD τ sig Unit (Elt F) ℕ (UU (Elt F)) ℕ) := ((ERu (F := F)).trans uEmb).toEmb
/-- Where write mode's algebra sits. -/
abbrev EW : UEmb (WmRA nD τ sig (Elt F)) (UU (Elt F)) :=
  ((UEmb.inl : UEmb (WmRA nD τ sig (Elt F)) (WmRA nD τ sig (Elt F) × Counters)).trans (UEmb.inr : UEmb _ (UV (Elt F)))).trans UEmb.inr

variable (m : (ℓ : Loc nD τ sig) → Buf (Elt F) ℓ) (ρ : Dev nD → PrngReg)

/-! ## The mesh -/

set_option backward.proofsInPublic true in
/-- The device above or below. -/
def rx (c : Dev nD) : Dev nD := ⟨(c.val + 2) % 4, Nat.mod_lt _ (by decide)⟩
set_option backward.proofsInPublic true in
/-- The device beside. -/
def cy (c : Dev nD) : Dev nD := ⟨c.val / 2 * 2 + (1 - c.val % 2), by have := c.isLt; show _ < 4; have : c.val < 4 := c.isLt; omega⟩

theorem rx_rx (c : Dev nD) : rx (rx c) = c := by revert c; decide
theorem cy_cy (c : Dev nD) : cy (cy c) = c := by revert c; decide

theorem dev1_eq (c : Dev nD) : (⟨k0_dev1 c, k0_dev1_lt c⟩ : Dev nD) = rx c := by revert c; decide +kernel
theorem dev2_eq (c : Dev nD) : (⟨k0_dev2 c, k0_dev2_lt c⟩ : Dev nD) = cy c := by revert c; decide +kernel
theorem dev3_eq (c : Dev nD) : (⟨k0_dev3 c, k0_dev3_lt c⟩ : Dev nD) = rx c := by revert c; decide +kernel
theorem dev4_eq (c : Dev nD) : (⟨k0_dev4 c, k0_dev4_lt c⟩ : Dev nD) = cy c := by revert c; decide +kernel

/-- Exchanging the rows of the mesh. -/
def rowSwap : Dev nD ≃ Dev nD := ⟨rx, rx, rx_rx, rx_rx⟩
/-- Exchanging the columns of the mesh. -/
def colSwap : Dev nD ≃ Dev nD := ⟨cy, cy, cy_cy, cy_cy⟩

/-- The row of a device, as the kernel computes it. -/
abbrev xw (c : Dev nD) : BitVec 32 := Scalar.remsi (Scalar.divsi (Dev.word c) 2#32) 2#32
/-- The column of a device, as the kernel computes it. -/
abbrev yw (c : Dev nD) : BitVec 32 := Scalar.remsi (Scalar.divsi (Dev.word c) 1#32) 2#32

/-! ## The buffers and the cells -/

abbrev rsM : Memref sig .tc .vmem S1x3072 .f32 := Memref.whole cc0_scratch6
abbrev csM : Memref sig .tc .vmem S3072x1 .f32 := Memref.whole cc0_scratch7
abbrev rhM : Memref sig .tc .vmem S1x3072 .f32 := Memref.whole cc0_scratch8
abbrev chM : Memref sig .tc .vmem S3072x1 .f32 := Memref.whole cc0_scratch9
abbrev xM : Memref sig .tc .hbm S3072x3072 .f32 := Memref.whole main_arg0
abbrev oM : Memref sig .tc .hbm S3072x3072 .bf16 := Memref.whole main_v1

abbrev barS : Sem sig := (SemArray.scalar (sig.barrier 0 rfl) : Sems sig S_).sem
/-- The DMA semaphores, by their place in the pool. -/
abbrev dS (n : Fin 12) : DmaSem sig := n

abbrev barCell (c : Dev nD) : GSem nD τ sig := ((c : Thread nD τ), .reg barS)
abbrev sndR (c : Dev nD) : GSem nD τ sig := ((c : Thread nD τ), .dma (dS 8))
abbrev sndC (c : Dev nD) : GSem nD τ sig := ((c : Thread nD τ), .dma (dS 9))
abbrev rcvR (c : Dev nD) : GSem nD τ sig := ((c : Thread nD τ), .dma (dS 10))
abbrev rcvC (c : Dev nD) : GSem nD τ sig := ((c : Thread nD τ), .dma (dS 11))

/-- The protocol's semaphores: barrier, the two departures, the two arrivals. -/
abbrev csem : Fin 5 → SemLoc sig := fun | 0 => .reg barS | 1 => .dma (dS 8) | 2 => .dma (dS 9) | 3 => .dma (dS 10) | 4 => .dma (dS 11)
abbrev kcell (ck : Dev nD × Fin 5) : GSem nD τ sig := ((ck.1 : Thread nD τ), csem ck.2)

/-- What an edge row's landing credits. -/
abbrev NR : ℕ := (rhM : Memref sig .tc .vmem S1x3072 .f32).view.dmaCredit
/-- What an edge column's landing credits. -/
abbrev NC : ℕ := (chM : Memref sig .tc .vmem S3072x1 .f32).view.dmaCredit
theorem NR_pos : 0 < NR := View.dmaCredit_pos _ (by decide)
theorem NC_pos : 0 < NC := View.dmaCredit_pos _ (by decide)

/-! ## What the transfers carry -/

/-- Device `c`'s block of the array. -/
abbrev xin (c : Dev nD) : (main_arg0 : Ref sig .tc).ty.Contents (Elt F) := m ((c : Thread nD τ).loc main_arg0)

/-- The rows the kernel fetches to pick its edge row from. -/
def rtile (c : Dev nD) : Vec F S8x3072 .f32 :=
  (xM.slice (Rect.unit (s := S3072x3072) (k0_off1 c) S8x3072.size (k0_off1_inb c)) (fun _ => rfl)).view.read (Elt F) (xin m c)
/-- The columns the kernel fetches to pick its edge column from. -/
def ctile (c : Dev nD) : Vec F S3072x128 .f32 :=
  (xM.slice (Rect.unit (s := S3072x3072) (k0_off2 c) S3072x128.size (k0_off2_inb c)) (fun _ => rfl)).view.read (Elt F) (xin m c)

/-- The edge row device `c` sends. -/
def rowOut (c : Dev nD) : FVec F S1x3072 .f32 := k0_pay1 (xw c) (rtile m c)
/-- The edge column device `c` sends. -/
def colOut (c : Dev nD) : FVec F S3072x1 .f32 := k0_pay2 (yw c) (ctile m c)

/-- A row landing buffer at contents `f`. -/
def rhPts (c : Dev nD) (f : Buf (Elt F) ((rhM : Memref sig .tc .vmem S1x3072 .f32).view.loc (c : Thread nD τ))) : sProp 𝕄 :=
  (rhM : Memref sig .tc .vmem S1x3072 .f32).view.loc (c : Thread nD τ) ↦[(rhM : Memref sig .tc .vmem S1x3072 .f32).view.set]{fullShare} f
/-- A column landing buffer at contents `f`. -/
def chPts (c : Dev nD) (f : Buf (Elt F) ((chM : Memref sig .tc .vmem S3072x1 .f32).view.loc (c : Thread nD τ))) : sProp 𝕄 :=
  (chM : Memref sig .tc .vmem S3072x1 .f32).view.loc (c : Thread nD τ) ↦[(chM : Memref sig .tc .vmem S3072x1 .f32).view.set]{fullShare} f
/-- A row departure buffer. -/
def rsPts (c : Dev nD) : sProp 𝕄 :=
  (rsM : Memref sig .tc .vmem S1x3072 .f32).view.loc (c : Thread nD τ) ↦[(rsM : Memref sig .tc .vmem S1x3072 .f32).view.set]{fullShare} rowOut m c
/-- A column departure buffer. -/
def csPts (c : Dev nD) : sProp 𝕄 :=
  (csM : Memref sig .tc .vmem S3072x1 .f32).view.loc (c : Thread nD τ) ↦[(csM : Memref sig .tc .vmem S3072x1 .f32).view.set]{fullShare} colOut m c

omit [FloatOps F] in
instance rhPts_storable (c : Dev nD) (f) : BI.Storable (upEmb : UEmb _ 𝕄) (rhPts (F := F) c f) := by unfold rhPts; infer_instance
omit [FloatOps F] in
instance chPts_storable (c : Dev nD) (f) : BI.Storable (upEmb : UEmb _ 𝕄) (chPts (F := F) c f) := by unfold chPts; infer_instance
instance rsPts_storable (c : Dev nD) : BI.Storable (upEmb : UEmb _ 𝕄) (rsPts (F := F) m c) := by unfold rsPts; infer_instance
instance csPts_storable (c : Dev nD) : BI.Storable (upEmb : UEmb _ 𝕄) (csPts (F := F) m c) := by unfold csPts; infer_instance

omit [FloatOps F] in
theorem rhPts_eq (c : Dev nD) (f : Buf (Elt F) ((c : Thread nD τ).loc cc0_scratch8)) :
    rhPts c f = (((c : Thread nD τ).loc cc0_scratch8) ↦{fullShare} f : sProp 𝕄) := by unfold rhPts; rw [View.set_whole]
omit [FloatOps F] in
theorem chPts_eq (c : Dev nD) (f : Buf (Elt F) ((c : Thread nD τ).loc cc0_scratch9)) :
    chPts c f = (((c : Thread nD τ).loc cc0_scratch9) ↦{fullShare} f : sProp 𝕄) := by unfold chPts; rw [View.set_whole]
theorem rsPts_eq (c : Dev nD) : rsPts m c = (((c : Thread nD τ).loc cc0_scratch6) ↦{fullShare} rowOut m c : sProp 𝕄) := by
  unfold rsPts; rw [View.set_whole]
theorem csPts_eq (c : Dev nD) : csPts m c = (((c : Thread nD τ).loc cc0_scratch7) ↦{fullShare} colOut m c : sProp 𝕄) := by
  unfold csPts; rw [View.set_whole]

/-! ## The schedule -/

/-- What the barrier unit from `rx c` hands `c`. -/
def barPayR (c : Dev nD) : sProp 𝕄 := iprop((∃ f, rhPts (rx c) f) ∗ reached ER (rcvR (rx c)) 0)
/-- What the barrier unit from `cy c` hands `c`. -/
def barPayC (c : Dev nD) : sProp 𝕄 := iprop((∃ f, chPts (cy c) f) ∗ reached ER (rcvC (cy c)) 0)

abbrev IsBar (g : GSem nD τ sig) : Prop := g.1.2 = .tc ∧ g.2 = .reg barS
abbrev IsXfer (g : GSem nD τ sig) : Prop :=
  g.1.2 = .tc ∧ (g.2 = .dma (dS 8) ∨ g.2 = .dma (dS 9) ∨ g.2 = .dma (dS 10) ∨ g.2 = .dma (dS 11))

/-- One round per cell: a barrier cell has a duty per neighbour of one unit, a departure or an arrival cell one duty of the
    transfer's credit. -/
def haloRd : Rounds.Schedule (GSem nD τ sig) Bool 𝕄 where
  duties g r := if r = 0 ∧ IsBar g then Finset.univ else if r = 0 ∧ IsXfer g then {false} else ∅
  unitless _ := False
  amount g _ _ := if g.2 = .reg barS then 1 else if g.2 = .dma (dS 8) ∨ g.2 = .dma (dS 10) then NR else NC
  payload g _ d :=
    if g.2 = .reg barS then (if d then barPayR g.1.1 else barPayC g.1.1)
    else if g.2 = .dma (dS 8) then rsPts m g.1.1
    else if g.2 = .dma (dS 9) then csPts m g.1.1
    else if g.2 = .dma (dS 10) then rhPts g.1.1 (rowOut m (rx g.1.1))
    else if g.2 = .dma (dS 11) then chPts g.1.1 (colOut m (cy g.1.1))
    else iprop(emp)
  amount_pos g _ _ _ := by
    split
    · exact Nat.one_pos
    · split
      · exact NR_pos
      · exact NC_pos

instance haloRd_payload_storable (g : GSem nD τ sig) (r : ℕ) (d : Bool) :
    BI.Storable (upEmb : UEmb _ 𝕄) ((haloRd (F := F) m).payload g r d) := by
  show BI.Storable upEmb (if g.2 = .reg barS then (if d then barPayR g.1.1 else barPayC g.1.1)
    else if g.2 = .dma (dS 8) then rsPts m g.1.1
    else if g.2 = .dma (dS 9) then csPts m g.1.1
    else if g.2 = .dma (dS 10) then rhPts g.1.1 (rowOut m (rx g.1.1))
    else if g.2 = .dma (dS 11) then chPts g.1.1 (colOut m (cy g.1.1))
    else iprop(emp))
  unfold barPayR barPayC
  (repeat' split) <;> infer_instance

section Sched
variable (c : Dev nD)

theorem dma_ne_bar (q : DmaSem sig) : (SemLoc.dma q : SemLoc sig) ≠ .reg barS := fun h => by cases h
theorem not_bar_dma (q : DmaSem sig) : ¬ IsBar ((c : Thread nD τ), .dma q) := fun h => dma_ne_bar q h.2
theorem dma_ne {a b : Fin 12} (h : a ≠ b) : (SemLoc.dma (dS a) : SemLoc sig) ≠ .dma (dS b) := fun h' => h (SemLoc.dma.inj h')

theorem duties_bar : (haloRd (F := F) m).duties (barCell c) 0 = Finset.univ := by dsimp only [haloRd]; exact if_pos ⟨rfl, rfl, rfl⟩
theorem duties_sndR : (haloRd (F := F) m).duties (sndR c) 0 = {false} := by
  dsimp only [haloRd]; rw [if_neg (fun h => not_bar_dma c _ h.2)]; exact if_pos ⟨rfl, rfl, .inl rfl⟩
theorem duties_sndC : (haloRd (F := F) m).duties (sndC c) 0 = {false} := by
  dsimp only [haloRd]; rw [if_neg (fun h => not_bar_dma c _ h.2)]; exact if_pos ⟨rfl, rfl, .inr (.inl rfl)⟩
theorem duties_rcvR : (haloRd (F := F) m).duties (rcvR c) 0 = {false} := by
  dsimp only [haloRd]; rw [if_neg (fun h => not_bar_dma c _ h.2)]; exact if_pos ⟨rfl, rfl, .inr (.inr (.inl rfl))⟩
theorem duties_rcvC : (haloRd (F := F) m).duties (rcvC c) 0 = {false} := by
  dsimp only [haloRd]; rw [if_neg (fun h => not_bar_dma c _ h.2)]; exact if_pos ⟨rfl, rfl, .inr (.inr (.inr rfl))⟩
theorem duties_later (g : GSem nD τ sig) : ∀ r, 1 ≤ r → (haloRd (F := F) m).duties g r = ∅ :=
  fun r hr => by dsimp only [haloRd]; rw [if_neg fun h => by omega, if_neg fun h => by omega]

theorem amount_bar (d : Bool) : (haloRd (F := F) m).amount (barCell c) 0 d = 1 := by dsimp only [haloRd]; exact if_pos rfl
theorem amount_sndR (d : Bool) : (haloRd (F := F) m).amount (sndR c) 0 d = NR := by
  dsimp only [haloRd]; rw [if_neg (dma_ne_bar _)]; exact if_pos (.inl rfl)
theorem amount_sndC (d : Bool) : (haloRd (F := F) m).amount (sndC c) 0 d = NC := by
  dsimp only [haloRd]; rw [if_neg (dma_ne_bar _)]; exact if_neg (fun h => h.elim (dma_ne (by decide)) (dma_ne (by decide)))
theorem amount_rcvR (d : Bool) : (haloRd (F := F) m).amount (rcvR c) 0 d = NR := by
  dsimp only [haloRd]; rw [if_neg (dma_ne_bar _)]; exact if_pos (.inr rfl)
theorem amount_rcvC (d : Bool) : (haloRd (F := F) m).amount (rcvC c) 0 d = NC := by
  dsimp only [haloRd]; rw [if_neg (dma_ne_bar _)]; exact if_neg (fun h => h.elim (dma_ne (by decide)) (dma_ne (by decide)))

theorem expect_bar : (haloRd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_sndR : (haloRd (F := F) m).expect (sndR c) 0 = NR := by
  unfold Schedule.expect Schedule.amountOf; rw [duties_sndR, Finset.sum_singleton, amount_sndR]
theorem expect_sndC : (haloRd (F := F) m).expect (sndC c) 0 = NC := by
  unfold Schedule.expect Schedule.amountOf; rw [duties_sndC, Finset.sum_singleton, amount_sndC]
theorem expect_rcvR : (haloRd (F := F) m).expect (rcvR c) 0 = NR := by
  unfold Schedule.expect Schedule.amountOf; rw [duties_rcvR, Finset.sum_singleton, amount_rcvR]
theorem expect_rcvC : (haloRd (F := F) m).expect (rcvC c) 0 = NC := by
  unfold Schedule.expect Schedule.amountOf; rw [duties_rcvC, Finset.sum_singleton, amount_rcvC]

theorem payload_bar_true : (haloRd (F := F) m).payload (barCell c) 0 true = barPayR c := by dsimp only [haloRd]; rw [if_pos rfl, if_pos rfl]
theorem payload_bar_false : (haloRd (F := F) m).payload (barCell c) 0 false = barPayC c := by
  dsimp only [haloRd]; rw [if_pos rfl]; exact if_neg Bool.false_ne_true
theorem payload_sndR (d : Bool) : (haloRd (F := F) m).payload (sndR c) 0 d = rsPts m c := by
  dsimp only [haloRd]; rw [if_neg (dma_ne_bar _), if_pos rfl]
theorem payload_sndC (d : Bool) : (haloRd (F := F) m).payload (sndC c) 0 d = csPts m c := by
  dsimp only [haloRd]; rw [if_neg (dma_ne_bar _), if_neg (dma_ne (by decide)), if_pos rfl]
theorem payload_rcvR (d : Bool) : (haloRd (F := F) m).payload (rcvR c) 0 d = rhPts c (rowOut m (rx c)) := by
  dsimp only [haloRd]; rw [if_neg (dma_ne_bar _), if_neg (dma_ne (by decide)), if_neg (dma_ne (by decide)), if_pos rfl]
theorem payload_rcvC (d : Bool) : (haloRd (F := F) m).payload (rcvC c) 0 d = chPts c (colOut m (cy c)) := by
  dsimp only [haloRd]; rw [if_neg (dma_ne_bar _), if_neg (dma_ne (by decide)), if_neg (dma_ne (by decide)), if_neg (dma_ne (by decide)), if_pos rfl]

/-- Both of a barrier cell's payloads. -/
theorem rest_bar : bigSep ((haloRd (F := F) m).duties (barCell c) 0 \ ∅) (fun d => (haloRd (F := F) m).payload (barCell c) 0 d)
    = iprop(barPayC c ∗ barPayR c) := by
  rw [Finset.sdiff_empty, duties_bar, bigSep_univ_eq_bigSepL [false, true] (by decide) (by decide), bigSepL_cons_cons, bigSepL_singleton,
    payload_bar_false, payload_bar_true]
  rfl
theorem rest_sndR : bigSep ((haloRd (F := F) m).duties (sndR c) 0 \ ∅) (fun d => (haloRd (F := F) m).payload (sndR c) 0 d) = rsPts m c := by
  rw [Finset.sdiff_empty, duties_sndR, bigSep_singleton, payload_sndR]
theorem rest_sndC : bigSep ((haloRd (F := F) m).duties (sndC c) 0 \ ∅) (fun d => (haloRd (F := F) m).payload (sndC c) 0 d) = csPts m c := by
  rw [Finset.sdiff_empty, duties_sndC, bigSep_singleton, payload_sndC]
theorem rest_rcvR : bigSep ((haloRd (F := F) m).duties (rcvR c) 0 \ ∅) (fun d => (haloRd (F := F) m).payload (rcvR c) 0 d)
    = rhPts c (rowOut m (rx c)) := by
  rw [Finset.sdiff_empty, duties_rcvR, bigSep_singleton, payload_rcvR]
theorem rest_rcvC : bigSep ((haloRd (F := F) m).duties (rcvC c) 0 \ ∅) (fun d => (haloRd (F := F) m).payload (rcvC c) 0 d)
    = chPts c (colOut m (cy c)) := by
  rw [Finset.sdiff_empty, duties_rcvC, bigSep_singleton, payload_rcvC]

end Sched

/-! ## What a device owes at launch; the levels -/

/-- After its barrier: the two arrivals of its transfers. -/
def O₂ (c : Dev nD) : CellTallies nD τ sig Unit := tallyAt (rcvC (cy c)) () NC + tallyAt (rcvR (rx c)) () NR
/-- Before the second signal. -/
def O₁ (c : Dev nD) : CellTallies nD τ sig Unit := O₂ c + tallyAt (barCell (cy c)) () 1
/-- At launch. -/
def O₀ (c : Dev nD) : CellTallies nD τ sig Unit := O₁ c + tallyAt (barCell (rx c)) () 1

def L (g : GSem nD τ sig) : Finset Unit := if g.1.2 = .tc then {()} else ∅
/-- Barrier cells at 1, arrival cells at 2, everything else at 0. -/
def lv (g : GSem nD τ sig) (_ : Unit) : ℕ := if g.2 = .reg barS then 1 else if g.2 = .dma (dS 10) ∨ g.2 = .dma (dS 11) then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₂_pos {c : Dev nD} {g : GSem nD τ sig} {u : Unit} (h : 0 < O₂ c g u) : g = rcvC (cy c) ∨ g = rcvR (rx c) := by
  unfold O₂ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

theorem O₀_pos {c : Dev nD} {g : GSem nD τ sig} {u : Unit} (h : 0 < O₀ c g u) :
    g = rcvC (cy c) ∨ g = rcvR (rx c) ∨ g = barCell (cy c) ∨ g = barCell (rx c) := by
  unfold O₀ O₁ at h
  rw [Pi.add_apply, Finsupp.add_apply, Pi.add_apply, Finsupp.add_apply, tallyAt_apply, tallyAt_apply] at h
  by_contra hn
  rw [not_or, not_or, not_or] at hn
  rw [if_neg (fun h' => hn.2.2.1 h'.1), if_neg (fun h' => hn.2.2.2 h'.1)] at h
  rcases O₂_pos (show 0 < O₂ c g u by omega) with h' | h'
  · exact hn.1 h'
  · exact hn.2.1 h'

/-- A device waits on its barrier owing the two arrivals. -/
theorem mayWait_bar (c : Dev nD) : (levAts L lv : sProp 𝕄) ⊢ MayWait (c : Thread nD τ) (.reg barS) () (O₂ c) :=
  MayOwe.of_cut (L := L) (lev := lv) 1 (fun p hp => by rw [Finset.mem_singleton.mp hp, L_tc]; exact Finset.mem_singleton_self _)
    (fun g u hg => by rcases O₂_pos hg with rfl | rfl <;> exact Finset.mem_singleton_self _)
    (fun p hp => by rw [Finset.mem_singleton.mp hp]; dsimp only [lv]; rw [if_pos rfl])
    (fun g u hg => by
      rcases O₂_pos hg with rfl | rfl
      · dsimp only [lv]; rw [if_neg (dma_ne_bar _), if_pos (.inr rfl)]; decide
      · dsimp only [lv]; rw [if_neg (dma_ne_bar _), if_pos (.inl rfl)]; decide)

/-- It waits on its local transfers owing the two arrivals, or nothing, or all it owes at launch. -/
theorem mayWait_local (c : Dev nD) (q : DmaSem sig) (h10 : q ≠ dS 10) (h11 : q ≠ dS 11) :
    (levAts L lv : sProp 𝕄) ⊢ MayWait (c : Thread nD τ) (.dma q) () (O₂ c) :=
  MayOwe.of_cut (L := L) (lev := lv) 0 (fun p hp => by rw [Finset.mem_singleton.mp hp, L_tc]; exact Finset.mem_singleton_self _)
    (fun g u hg => by rcases O₂_pos hg with rfl | rfl <;> exact Finset.mem_singleton_self _)
    (fun p hp => by
      rw [Finset.mem_singleton.mp hp]; dsimp only [lv]
      rw [if_neg (dma_ne_bar _), if_neg (fun h => h.elim (fun h => h10 (SemLoc.dma.inj h)) (fun h => h11 (SemLoc.dma.inj h)))])
    (fun g u hg => by
      rcases O₂_pos hg with rfl | rfl
      · dsimp only [lv]; rw [if_neg (dma_ne_bar _), if_pos (.inr rfl)]; decide
      · dsimp only [lv]; rw [if_neg (dma_ne_bar _), if_pos (.inl rfl)]; decide)

end Cert.KernelIdeal.Halo

end
-- ==== Proof.KernelIdeal.Tables.lean ====
module

public import proofs.«01_k».proof.Proof.KernelIdeal.Proto

@[expose] public section

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU (Elt F)) ℕ

variable (m : (ℓ : Loc nD τ sig) → Buf (Elt F) ℓ) (ρ : Dev nD → PrngReg)

abbrev pts (c : Dev nD) (b : Ref sig .tc) (q : PosShare TreeShare) (f : Buf (Elt F) ((c : Thread nD τ).loc b)) : sProp 𝕄 :=
  (Memref.whole b).view.loc (c : Thread nD τ) ↦[(Memref.whole b).view.set]{q} f
abbrev tok (i : ℕ) : PosShare TreeShare := Transfers.shareTokN fullShare i

theorem tbl_bar_true (c : Dev nD) : (haloRd (F := F) m).payload (barCell c) 0 true
    = iprop((∃ f, pts (rx c) cc0_scratch8 fullShare f) ∗ reached ER (rcvR (rx c)) 0) := by
  rw [payload_bar_true]; unfold barPayR; rfl
theorem tbl_bar_false (c : Dev nD) : (haloRd (F := F) m).payload (barCell c) 0 false
    = iprop((∃ f, pts (cy c) cc0_scratch9 fullShare f) ∗ reached ER (rcvC (cy c)) 0) := by
  rw [payload_bar_false]; unfold barPayC; rfl
theorem tbl_rest_bar (c : Dev nD) : bigSep ((haloRd (F := F) m).duties (barCell c) 0 \ ∅) (fun d => (haloRd (F := F) m).payload (barCell c) 0 d)
    = iprop(((∃ f, pts (cy c) cc0_scratch9 fullShare f) ∗ reached ER (rcvC (cy c)) 0) ∗ (∃ f, pts (rx c) cc0_scratch8 fullShare f) ∗ reached ER (rcvR (rx c)) 0) := by
  rw [rest_bar, ← payload_bar_true m, ← payload_bar_false m, tbl_bar_true, tbl_bar_false]
theorem tbl_rest_bar' (c : Dev nD) : bigSep ((haloRd (F := F) m).duties (barCell c) 0) (fun d => (haloRd (F := F) m).payload (barCell c) 0 d)
    = iprop(((∃ f, pts (cy c) cc0_scratch9 fullShare f) ∗ reached ER (rcvC (cy c)) 0) ∗ (∃ f, pts (rx c) cc0_scratch8 fullShare f) ∗ reached ER (rcvR (rx c)) 0) := by
  rw [← tbl_rest_bar m c, Finset.sdiff_empty]
theorem tbl_sndR (c : Dev nD) (d : Bool) : (haloRd (F := F) m).payload (sndR c) 0 d = pts c cc0_scratch6 fullShare (rowOut m c) := by
  rw [payload_sndR]; rfl
theorem tbl_sndC (c : Dev nD) (d : Bool) : (haloRd (F := F) m).payload (sndC c) 0 d = pts c cc0_scratch7 fullShare (colOut m c) := by
  rw [payload_sndC]; rfl
theorem tbl_rcvR (c : Dev nD) (d : Bool) : (haloRd (F := F) m).payload (rcvR c) 0 d = pts c cc0_scratch8 fullShare (rowOut m (rx c)) := by
  rw [payload_rcvR]; rfl
theorem tbl_rcvC (c : Dev nD) (d : Bool) : (haloRd (F := F) m).payload (rcvC c) 0 d = pts c cc0_scratch9 fullShare (colOut m (cy c)) := by
  rw [payload_rcvC]; rfl

variable (K : Dev nD × Fin 5 → ℕ)

/-- The points-to of part of a buffer, the elements of one rectangle. -/
abbrev ptsOn (c : Dev nD) (b : Ref sig .tc) (R : Rect b.ty.shape) (f : Buf (Elt F) ((c : Thread nD τ).loc b)) : sProp 𝕄 :=
  (Memref.whole b).view.loc (c : Thread nD τ) ↦[(Memref.whole b).view.setOn R.set]{fullShare} f

abbrev xs0 : Rect S2x528x3072 := Rect.unit (s := S2x528x3072) ![0, 0, 0] S1x528x3072.size inb_S2x528x3072_S1x528x3072_0_0_0
abbrev xs1 : Rect S2x528x3072 := Rect.unit (s := S2x528x3072) ![1, 0, 0] S1x528x3072.size inb_S2x528x3072_S1x528x3072_1_0_0
abbrev os0 : Rect S2x512x3072 := Rect.unit (s := S2x512x3072) ![0, 0, 0] S1x512x3072.size inb_S2x512x3072_S1x512x3072_0_0_0
abbrev os1 : Rect S2x512x3072 := Rect.unit (s := S2x512x3072) ![1, 0, 0] S1x512x3072.size inb_S2x512x3072_S1x512x3072_1_0_0
abbrev ow0 : Rect S3072x3072 := Rect.unit (s := S3072x3072) ![0, 0] S512x3072.size inb_S3072x3072_S512x3072_0_0
abbrev ow1 : Rect S3072x3072 := Rect.unit (s := S3072x3072) ![512, 0] S512x3072.size inb_S3072x3072_S512x3072_512_0
abbrev ow2 : Rect S3072x3072 := Rect.unit (s := S3072x3072) ![1024, 0] S512x3072.size inb_S3072x3072_S512x3072_1024_0
abbrev ow3 : Rect S3072x3072 := Rect.unit (s := S3072x3072) ![1536, 0] S512x3072.size inb_S3072x3072_S512x3072_1536_0
abbrev ow4 : Rect S3072x3072 := Rect.unit (s := S3072x3072) ![2048, 0] S512x3072.size inb_S3072x3072_S512x3072_2048_0
abbrev ow5 : Rect S3072x3072 := Rect.unit (s := S3072x3072) ![2560, 0] S512x3072.size inb_S3072x3072_S512x3072_2560_0

/-- The memrefs of the output's six chunks. -/
abbrev oS0 := (Memref.whole main_v1).slice ow0 (by intro a; fin_cases a <;> rfl)
abbrev oS1 := (Memref.whole main_v1).slice ow1 (by intro a; fin_cases a <;> rfl)
abbrev oS2 := (Memref.whole main_v1).slice ow2 (by intro a; fin_cases a <;> rfl)
abbrev oS3 := (Memref.whole main_v1).slice ow3 (by intro a; fin_cases a <;> rfl)
abbrev oS4 := (Memref.whole main_v1).slice ow4 (by intro a; fin_cases a <;> rfl)
abbrev oS5 := (Memref.whole main_v1).slice ow5 (by intro a; fin_cases a <;> rfl)
/-- The memrefs of the staging buffer's two slots. -/
abbrev bS0 := ((Memref.whole cc0_scratch1).slice os0 (by intro a; fin_cases a <;> rfl)).squeeze S512x3072 squeezes_S1x512x3072_S512x3072
abbrev bS1 := ((Memref.whole cc0_scratch1).slice os1 (by intro a; fin_cases a <;> rfl)).squeeze S512x3072 squeezes_S1x512x3072_S512x3072

/-- The points-to of the elements under a memref. -/
abbrev ptsM {sp : Space} {s : Shape} {e : EltTy} (c : Dev nD) (M : Memref sig .tc sp s e) (f : Buf (Elt F) (M.view.loc (c : Thread nD τ))) : sProp 𝕄 :=
  M.view.loc (c : Thread nD τ) ↦[M.view.set]{fullShare} f

theorem set_bS0 : ((Memref.whole cc0_scratch1).view.setOn os0.set : Finset (cc0_scratch1 : Ref sig .tc).ty.shape.Idx) = bS0.view.set :=
  (View.set_slice _ os0).symm.trans (View.set_reshape _ _).symm
theorem set_bS1 : ((Memref.whole cc0_scratch1).view.setOn os1.set : Finset (cc0_scratch1 : Ref sig .tc).ty.shape.Idx) = bS1.view.set :=
  (View.set_slice _ os1).symm.trans (View.set_reshape _ _).symm

theorem slot0_in (c : Dev nD) (f : Buf (Elt F) ((c : Thread nD τ).loc cc0_scratch1)) :
    (ptsOn c cc0_scratch1 os0 f : sProp 𝕄) ⊢ iprop(∃ G : Buf (Elt F) ((c : Thread nD τ).loc cc0_scratch1), ⌜G = f⌝ ∗ ptsM c bS0 G) := by
  unfold ptsOn ptsM
  rw [set_bS0]
  iintro H
  iexists f
  isplitr; · ipureintro; rfl
  iexact H
theorem slot1_in (c : Dev nD) (f : Buf (Elt F) ((c : Thread nD τ).loc cc0_scratch1)) :
    (ptsOn c cc0_scratch1 os1 f : sProp 𝕄) ⊢ iprop(∃ G : Buf (Elt F) ((c : Thread nD τ).loc cc0_scratch1), ⌜G = f⌝ ∗ ptsM c bS1 G) := by
  unfold ptsOn ptsM
  rw [set_bS1]
  iintro H
  iexists f
  isplitr; · ipureintro; rfl
  iexact H
theorem slot0_out (c : Dev nD) (f : Buf (Elt F) ((c : Thread nD τ).loc cc0_scratch1)) :
    (ptsM c bS0 f : sProp 𝕄) ⊢ ptsOn c cc0_scratch1 os0 f := by
  unfold ptsOn ptsM
  rw [set_bS0]
theorem slot1_out (c : Dev nD) (f : Buf (Elt F) ((c : Thread nD τ).loc cc0_scratch1)) :
    (ptsM c bS1 f : sProp 𝕄) ⊢ ptsOn c cc0_scratch1 os1 f := by
  unfold ptsOn ptsM
  rw [set_bS1]

theorem hz : (![0, 0] : Fin 2 → Nat) = fun _ => 0 := funext fun a => by fin_cases a <;> rfl

omit [FloatOps F] in
theorem pts_congr (c : Dev nD) (b : Ref sig .tc) (q : PosShare TreeShare) {f g : Buf (Elt F) ((c : Thread nD τ).loc b)} (h : f = g) :
    pts c b q f ⊢ pts c b q g := Entails.of_eq (by rw [h])

theorem readCov_whole (b : Ref sig .tc) (w : b.ty.shape.Idx → Elt F b.ty.elt) {off : Fin b.ty.shape.rank → ℕ} (h0 : off = fun _ => 0)
    (inb : ∀ a, off a + b.ty.shape.size a ≤ b.ty.shape.size a) :
    (Memref.whole b).view.readCov [⟨Rect.whole b.ty.shape, w⟩] (Rect.unit off b.ty.shape.size inb).toLoadRect = w := by
  unfold View.readCov
  rw [Memref.readAt_unit_zero (Elt F) b h0]
  exact View.read_writes_whole (Memref.whole b).view _ w

theorem writes_whole (b : Ref sig .tc) (f w : b.ty.Contents (Elt F)) {off : Fin b.ty.shape.rank → ℕ} (h0 : off = fun _ => 0)
    (inb : ∀ a, off a + b.ty.shape.size a ≤ b.ty.shape.size a) :
    (Memref.whole b).view.writes (Elt F) f [⟨Rect.unit off b.ty.shape.size inb, w⟩] = w := by
  rw [View.writes_singleton]
  exact Memref.write_access_unit_zero_univ (Elt F) b h0 inb f w

theorem land_row (g w : (cc0_scratch8 : Ref sig .tc).ty.Contents (Elt F)) :
    (rhM : Memref sig .tc .vmem S1x3072 .f32).view.write (Elt F) g ((rsM : Memref sig .tc .vmem S1x3072 .f32).view.read (Elt F) w) Finset.univ = w :=
  (View.write_whole_univ cc0_scratch8 g _).trans (View.read_whole cc0_scratch6 w)
theorem land_col (g w : (cc0_scratch9 : Ref sig .tc).ty.Contents (Elt F)) :
    (chM : Memref sig .tc .vmem S3072x1 .f32).view.write (Elt F) g ((csM : Memref sig .tc .vmem S3072x1 .f32).view.read (Elt F) w) Finset.univ = w :=
  (View.write_whole_univ cc0_scratch9 g _).trans (View.read_whole cc0_scratch7 w)
theorem amt_row : (rhM : Memref sig .tc .vmem S1x3072 .f32).view.amount (.dma (dS 10)) = NR := by unfold View.amount; rfl
theorem amt_col : (chM : Memref sig .tc .vmem S3072x1 .f32).view.amount (.dma (dS 11)) = NC := by unfold View.amount; rfl
theorem pay_row (c : Dev nD) (g : (cc0_scratch8 : Ref sig .tc).ty.Contents (Elt F)) :
    ((rhM.view.loc (rx c : Thread nD τ) ↦[rhM.view.set]{fullShare} ((rhM : Memref sig .tc .vmem S1x3072 .f32).view.write (Elt F) g ((rsM : Memref sig .tc .vmem S1x3072 .f32).view.read (Elt F) (rowOut m c)) Finset.univ)) : sProp 𝕄)
      ⊢ (haloRd (F := F) m).payload (rcvR (rx c)) 0 false := by
  rw [land_row]; exact Entails.of_eq (by rw [tbl_rcvR, rx_rx])
theorem pay_col (c : Dev nD) (g : (cc0_scratch9 : Ref sig .tc).ty.Contents (Elt F)) :
    ((chM.view.loc (cy c : Thread nD τ) ↦[chM.view.set]{fullShare} ((chM : Memref sig .tc .vmem S3072x1 .f32).view.write (Elt F) g ((csM : Memref sig .tc .vmem S3072x1 .f32).view.read (Elt F) (colOut m c)) Finset.univ)) : sProp 𝕄)
      ⊢ (haloRd (F := F) m).payload (rcvC (cy c)) 0 false := by
  rw [land_col]; exact Entails.of_eq (by rw [tbl_rcvC, cy_cy])

theorem wp_send_row (c n : Dev nD) (hn : n = rx c) {sS sR : DmaSem sig} (hS : sS = dS 8) (hR : sR = dS 10) {hsc : (rhM : Memref sig (Dev.tc n : Thread nD τ).2.kind .vmem S1x3072 .f32).view.ref.isScScratch = false}
    {hsrc : (rsM : Memref sig .tc .vmem S1x3072 .f32).view.WordExact} {hdst : (rhM : Memref sig .tc .vmem S1x3072 .f32).view.WordExact}
    {hsem : DmaTarget.Typed .vmem (.dma sR) (.remote (Dev.tc n : Thread nD τ) (rhM : Memref sig .tc .vmem S1x3072 .f32) (.dma sS) hsc)}
    {α : Type} {Q : α → sProp 𝕄} {k : PUnit → Prog (TpuEff nD τ sig (Elt F) Λ₀ .tc) α}
    (g : Buf (Elt F) ((rhM : Memref sig .tc .vmem S1x3072 .f32).view.loc (rx c : Thread nD τ))) (W : Waits sig Unit) :
    iprop(cellInv ER (haloRd m) (K (c, 1)) (sndR c) ∗ cellInv ER (haloRd m) (K (rx c, 3)) (rcvR (rx c))
        ∗ pts c cc0_scratch6 fullShare (rowOut m c) ∗ pts (rx c) cc0_scratch8 fullShare g
        ∗ owes (c : Thread nD τ) (tallyAt (rcvC (cy c)) () NC + tallyAt (rcvR (rx c)) () NR) W
        ∗ dutyTok ER (sndR c) 0 false ∗ reached ER (sndR c) 0
        ∗ dutyTok ER (rcvR (rx c)) 0 false ∗ reached ER (rcvR (rx c)) 0)
      ⊢ iprop(((cred (tallyAt (sndR c) () NR) ∗ owes (c : Thread nD τ) (tallyAt (rcvC (cy c)) () NC) W) -∗ wp frame (wpE (defs₀ (F := F)) Variants.none (c : Thread nD τ) none) Set.univ (k ⟨⟩) Q)
          -∗ wp frame (wpE (defs₀ (F := F)) Variants.none (c : Thread nD τ) none) Set.univ
              (.op (.enqueueDma rsM (.remote (Dev.tc n : Thread nD τ) rhM (.dma sS) hsc) (.dma sR) hsrc hdst hsem) k) Q) := by
  subst hn; subst hS; subst hR
  exact Rounds.wp_send_pointsTo Variants.none ER (haloRd m) (c : Thread nD τ) none (κ₁ := K (c, 1)) (κ₂ := K (rx c, 3))
    (r₁ := 0) (r₂ := 0) (d₁ := false) (d₂ := false) (fd := g)
    (by rw [duties_sndR]; exact Finset.mem_singleton_self _) (by rw [duties_rcvR]; exact Finset.mem_singleton_self _)
    () () NR amt_row (amount_sndR m c false) (amount_rcvR m (rx c) false) (tallyAt (rcvC (cy c)) () NC) rfl (W := W)
    (Entails.of_eq (tbl_sndR m c false).symm) (pay_row m c g)

theorem wp_send_col (c n : Dev nD) (hn : n = cy c) {sS sR : DmaSem sig} (hS : sS = dS 9) (hR : sR = dS 11) {hsc : (chM : Memref sig (Dev.tc n : Thread nD τ).2.kind .vmem S3072x1 .f32).view.ref.isScScratch = false}
    {hsrc : (csM : Memref sig .tc .vmem S3072x1 .f32).view.WordExact} {hdst : (chM : Memref sig .tc .vmem S3072x1 .f32).view.WordExact}
    {hsem : DmaTarget.Typed .vmem (.dma sR) (.remote (Dev.tc n : Thread nD τ) (chM : Memref sig .tc .vmem S3072x1 .f32) (.dma sS) hsc)}
    {α : Type} {Q : α → sProp 𝕄} {k : PUnit → Prog (TpuEff nD τ sig (Elt F) Λ₀ .tc) α}
    (g : Buf (Elt F) ((chM : Memref sig .tc .vmem S3072x1 .f32).view.loc (cy c : Thread nD τ))) (W : Waits sig Unit) :
    iprop(cellInv ER (haloRd m) (K (c, 2)) (sndC c) ∗ cellInv ER (haloRd m) (K (cy c, 4)) (rcvC (cy c))
        ∗ pts c cc0_scratch7 fullShare (colOut m c) ∗ pts (cy c) cc0_scratch9 fullShare g
        ∗ owes (c : Thread nD τ) (tallyAt (rcvC (cy c)) () NC) W
        ∗ dutyTok ER (sndC c) 0 false ∗ reached ER (sndC c) 0
        ∗ dutyTok ER (rcvC (cy c)) 0 false ∗ reached ER (rcvC (cy c)) 0)
      ⊢ iprop(((cred (tallyAt (sndC c) () NC) ∗ owes (c : Thread nD τ) 0 W) -∗ wp frame (wpE (defs₀ (F := F)) Variants.none (c : Thread nD τ) none) Set.univ (k ⟨⟩) Q)
          -∗ wp frame (wpE (defs₀ (F := F)) Variants.none (c : Thread nD τ) none) Set.univ
              (.op (.enqueueDma csM (.remote (Dev.tc n : Thread nD τ) chM (.dma sS) hsc) (.dma sR) hsrc hdst hsem) k) Q) := by
  subst hn; subst hS; subst hR
  exact Rounds.wp_send_pointsTo Variants.none ER (haloRd m) (c : Thread nD τ) none (κ₁ := K (c, 2)) (κ₂ := K (cy c, 4))
    (r₁ := 0) (r₂ := 0) (d₁ := false) (d₂ := false) (fd := g)
    (by rw [duties_sndC]; exact Finset.mem_singleton_self _) (by rw [duties_rcvC]; exact Finset.mem_singleton_self _)
    () () NC amt_col (amount_sndC m c false) (amount_rcvC m (cy c) false) 0 (by rw [zero_add]) (W := W)
    (Entails.of_eq (tbl_sndC m c false).symm) (pay_col m c g)

end Cert.KernelIdeal.Halo

end
-- ==== Proof.KernelIdeal.Parts.lean ====
module

public import proofs.«01_k».proof.Proof.KernelIdeal.Tables

@[expose] public section

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU (Elt F)) ℕ

variable (m : (ℓ : Loc nD τ sig) → Buf (Elt F) ℓ) (ρ : Dev nD → PrngReg)

/-! ## Buffers in parts and whole -/

/-- The elements of the output buffer in rows `lo` up to `hi`. -/
def rowsO (lo hi : ℕ) : Finset (main_v1 : Ref sig .tc).ty.shape.Idx :=
  (Finset.univ : Finset S3072x3072.Idx).filter fun i => lo ≤ (i 0).val ∧ (i 0).val < hi

theorem mem_rowsO {lo hi : ℕ} {i : S3072x3072.Idx} : i ∈ (rowsO lo hi : Finset S3072x3072.Idx) ↔ lo ≤ (i 0).val ∧ (i 0).val < hi := by
  unfold rowsO
  exact ⟨fun h => (Finset.mem_filter.mp h).2, fun h => Finset.mem_filter.mpr ⟨Finset.mem_univ _, h⟩⟩

theorem set_rows {lo : ℕ} (inb : ∀ a, (![lo, 0] : Fin 2 → ℕ) a + S512x3072.size a ≤ S3072x3072.size a) :
    ((Rect.unit (s := S3072x3072) ![lo, 0] S512x3072.size inb).set : Finset S3072x3072.Idx) = rowsO lo (lo + 512) := by
  ext i
  rw [Rect.mem_set_unit, mem_rowsO]
  constructor
  · intro h; exact h 0
  · intro h a
    match a with
    | ⟨0, _⟩ => exact h
    | ⟨1, _⟩ => exact ⟨Nat.zero_le _, by have := (i 1).isLt; show _ < 0 + 3072; rw [Nat.zero_add]; exact this⟩

theorem rowsO_union {a b d : ℕ} (h : a ≤ b) (h' : b ≤ d) : rowsO a d = rowsO a b ∪ rowsO b d := by
  ext i
  rw [Finset.mem_union]
  refine (mem_rowsO (i := i)).trans ?_
  refine Iff.trans ?_ (or_congr (mem_rowsO (i := i)) (mem_rowsO (i := i))).symm
  omega

theorem rowsO_disj {a b d : ℕ} : Disjoint (rowsO a b) (rowsO b d) := by
  rw [Finset.disjoint_left]
  intro i h h'
  have h1 := (mem_rowsO (i := i)).mp h
  have h2 := (mem_rowsO (i := i)).mp h'
  omega

theorem rowsO_all : (Finset.univ : Finset S3072x3072.Idx) = rowsO 0 3072 := by
  ext i
  refine ⟨fun _ => mem_rowsO.mpr ⟨Nat.zero_le _, (i 0).isLt⟩, fun _ => Finset.mem_univ _⟩

theorem set_oS0 : (oS0.view.set : Finset S3072x3072.Idx) = rowsO 0 512 := (View.set_slice_whole main_v1 ow0).trans (set_rows _)
theorem set_oS1 : (oS1.view.set : Finset S3072x3072.Idx) = rowsO 512 1024 := (View.set_slice_whole main_v1 ow1).trans (set_rows _)
theorem set_oS2 : (oS2.view.set : Finset S3072x3072.Idx) = rowsO 1024 1536 := (View.set_slice_whole main_v1 ow2).trans (set_rows _)
theorem set_oS3 : (oS3.view.set : Finset S3072x3072.Idx) = rowsO 1536 2048 := (View.set_slice_whole main_v1 ow3).trans (set_rows _)
theorem set_oS4 : (oS4.view.set : Finset S3072x3072.Idx) = rowsO 2048 2560 := (View.set_slice_whole main_v1 ow4).trans (set_rows _)
theorem set_oS5 : (oS5.view.set : Finset S3072x3072.Idx) = rowsO 2560 3072 := (View.set_slice_whole main_v1 ow5).trans (set_rows _)

theorem rows_six (c : Dev nD) (f : Buf (Elt F) ((c : Thread nD τ).loc main_v1)) (S A0 A1 A2 A3 A4 A5 : Finset (Idx ((c : Thread nD τ).loc main_v1)))
    (hS : S = rowsO 0 3072) (h0 : A0 = rowsO 0 512) (h1 : A1 = rowsO 512 1024) (h2 : A2 = rowsO 1024 1536) (h3 : A3 = rowsO 1536 2048)
    (h4 : A4 = rowsO 2048 2560) (h5 : A5 = rowsO 2560 3072) :
    ((((c : Thread nD τ).loc main_v1) ↦[S]{fullShare} f : sProp 𝕄)
        ⊣⊢ iprop((((c : Thread nD τ).loc main_v1) ↦[A0]{fullShare} f) ∗ (((c : Thread nD τ).loc main_v1) ↦[A1]{fullShare} f)
          ∗ (((c : Thread nD τ).loc main_v1) ↦[A2]{fullShare} f) ∗ (((c : Thread nD τ).loc main_v1) ↦[A3]{fullShare} f)
          ∗ (((c : Thread nD τ).loc main_v1) ↦[A4]{fullShare} f) ∗ (((c : Thread nD τ).loc main_v1) ↦[A5]{fullShare} f))) := by
  subst hS h0 h1 h2 h3 h4 h5
  have key : ∀ (a b d : ℕ), a ≤ b → b ≤ d →
      ((((c : Thread nD τ).loc main_v1) ↦[rowsO a d]{fullShare} f : sProp 𝕄)
        ⊣⊢ iprop((((c : Thread nD τ).loc main_v1) ↦[rowsO a b]{fullShare} f) ∗ (((c : Thread nD τ).loc main_v1) ↦[rowsO b d]{fullShare} f))) := by
    intro a b d h h'
    rw [rowsO_union h h']
    exact pointsTo_union rowsO_disj
  refine (key 0 512 3072 (by decide) (by decide)).trans (sep_congr .rfl ?_)
  refine (key 512 1024 3072 (by decide) (by decide)).trans (sep_congr .rfl ?_)
  refine (key 1024 1536 3072 (by decide) (by decide)).trans (sep_congr .rfl ?_)
  refine (key 1536 2048 3072 (by decide) (by decide)).trans (sep_congr .rfl ?_)
  exact (key 2048 2560 3072 (by decide) (by decide))

theorem out_split (c : Dev nD) (f : Buf (Elt F) ((c : Thread nD τ).loc main_v1)) :
    (pts c main_v1 fullShare f : sProp 𝕄) ⊣⊢ iprop(ptsM c oS0 f ∗ ptsM c oS1 f ∗ ptsM c oS2 f ∗ ptsM c oS3 f ∗ ptsM c oS4 f ∗ ptsM c oS5 f) :=
  rows_six c f _ _ _ _ _ _ _ ((View.set_whole main_v1).trans rowsO_all) set_oS0 set_oS1 set_oS2 set_oS3 set_oS4 set_oS5

/-- One valuation out of six, by the rows of each chunk. -/
def joinO (c : Dev nD) (o0 o1 o2 o3 o4 o5 : Buf (Elt F) ((c : Thread nD τ).loc main_v1)) : Buf (Elt F) ((c : Thread nD τ).loc main_v1) :=
  fun i => if i ∈ rowsO 0 512 then o0 i else if i ∈ rowsO 512 1024 then o1 i else if i ∈ rowsO 1024 1536 then o2 i
    else if i ∈ rowsO 1536 2048 then o3 i else if i ∈ rowsO 2048 2560 then o4 i else o5 i

theorem rows_six_join (c : Dev nD) (o0 o1 o2 o3 o4 o5 : Buf (Elt F) ((c : Thread nD τ).loc main_v1)) (A0 A1 A2 A3 A4 A5 : Finset (Idx ((c : Thread nD τ).loc main_v1)))
    (h0 : A0 = rowsO 0 512) (h1 : A1 = rowsO 512 1024) (h2 : A2 = rowsO 1024 1536) (h3 : A3 = rowsO 1536 2048)
    (h4 : A4 = rowsO 2048 2560) (h5 : A5 = rowsO 2560 3072) :
    (iprop((((c : Thread nD τ).loc main_v1) ↦[A0]{fullShare} o0) ∗ (((c : Thread nD τ).loc main_v1) ↦[A1]{fullShare} o1)
          ∗ (((c : Thread nD τ).loc main_v1) ↦[A2]{fullShare} o2) ∗ (((c : Thread nD τ).loc main_v1) ↦[A3]{fullShare} o3)
          ∗ (((c : Thread nD τ).loc main_v1) ↦[A4]{fullShare} o4) ∗ (((c : Thread nD τ).loc main_v1) ↦[A5]{fullShare} o5)) : sProp 𝕄)
      = iprop((((c : Thread nD τ).loc main_v1) ↦[A0]{fullShare} joinO c o0 o1 o2 o3 o4 o5) ∗ (((c : Thread nD τ).loc main_v1) ↦[A1]{fullShare} joinO c o0 o1 o2 o3 o4 o5)
          ∗ (((c : Thread nD τ).loc main_v1) ↦[A2]{fullShare} joinO c o0 o1 o2 o3 o4 o5) ∗ (((c : Thread nD τ).loc main_v1) ↦[A3]{fullShare} joinO c o0 o1 o2 o3 o4 o5)
          ∗ (((c : Thread nD τ).loc main_v1) ↦[A4]{fullShare} joinO c o0 o1 o2 o3 o4 o5) ∗ (((c : Thread nD τ).loc main_v1) ↦[A5]{fullShare} joinO c o0 o1 o2 o3 o4 o5)) := by
  subst h0 h1 h2 h3 h4 h5
  have ne : ∀ {a b : ℕ} (d e : ℕ) {i : Idx ((c : Thread nD τ).loc main_v1)}, i ∈ rowsO a b → (b ≤ d ∨ e ≤ a) → i ∉ rowsO d e := by
    intro a b d e i h hd h'
    have h1 := (mem_rowsO (i := i)).mp h
    have h2 := (mem_rowsO (i := i)).mp h'
    omega
  have e0 : ((((c : Thread nD τ).loc main_v1) ↦[rowsO 0 512]{fullShare} o0) : sProp 𝕄) = (((c : Thread nD τ).loc main_v1) ↦[rowsO 0 512]{fullShare} joinO c o0 o1 o2 o3 o4 o5) :=
    pointsTo_congr (fun i hi => by unfold joinO; rw [if_pos hi])
  have e1 : ((((c : Thread nD τ).loc main_v1) ↦[rowsO 512 1024]{fullShare} o1) : sProp 𝕄) = (((c : Thread nD τ).loc main_v1) ↦[rowsO 512 1024]{fullShare} joinO c o0 o1 o2 o3 o4 o5) :=
    pointsTo_congr (fun i hi => by unfold joinO; rw [if_neg (ne 0 512 hi (by decide)), if_pos hi])
  have e2 : ((((c : Thread nD τ).loc main_v1) ↦[rowsO 1024 1536]{fullShare} o2) : sProp 𝕄) = (((c : Thread nD τ).loc main_v1) ↦[rowsO 1024 1536]{fullShare} joinO c o0 o1 o2 o3 o4 o5) :=
    pointsTo_congr (fun i hi => by unfold joinO; rw [if_neg (ne 0 512 hi (by decide)), if_neg (ne 512 1024 hi (by decide)), if_pos hi])
  have e3 : ((((c : Thread nD τ).loc main_v1) ↦[rowsO 1536 2048]{fullShare} o3) : sProp 𝕄) = (((c : Thread nD τ).loc main_v1) ↦[rowsO 1536 2048]{fullShare} joinO c o0 o1 o2 o3 o4 o5) :=
    pointsTo_congr (fun i hi => by unfold joinO; rw [if_neg (ne 0 512 hi (by decide)), if_neg (ne 512 1024 hi (by decide)), if_neg (ne 1024 1536 hi (by decide)), if_pos hi])
  have e4 : ((((c : Thread nD τ).loc main_v1) ↦[rowsO 2048 2560]{fullShare} o4) : sProp 𝕄) = (((c : Thread nD τ).loc main_v1) ↦[rowsO 2048 2560]{fullShare} joinO c o0 o1 o2 o3 o4 o5) :=
    pointsTo_congr (fun i hi => by unfold joinO; rw [if_neg (ne 0 512 hi (by decide)), if_neg (ne 512 1024 hi (by decide)), if_neg (ne 1024 1536 hi (by decide)), if_neg (ne 1536 2048 hi (by decide)), if_pos hi])
  have e5 : ((((c : Thread nD τ).loc main_v1) ↦[rowsO 2560 3072]{fullShare} o5) : sProp 𝕄) = (((c : Thread nD τ).loc main_v1) ↦[rowsO 2560 3072]{fullShare} joinO c o0 o1 o2 o3 o4 o5) :=
    pointsTo_congr (fun i hi => by unfold joinO; rw [if_neg (ne 0 512 hi (by decide)), if_neg (ne 512 1024 hi (by decide)), if_neg (ne 1024 1536 hi (by decide)), if_neg (ne 1536 2048 hi (by decide)), if_neg (ne 2048 2560 hi (by decide))])
  rw [e0, e1, e2, e3, e4, e5]

theorem out_join (c : Dev nD) (o0 o1 o2 o3 o4 o5 : Buf (Elt F) ((c : Thread nD τ).loc main_v1)) :
    (iprop(ptsM c oS0 o0 ∗ ptsM c oS1 o1 ∗ ptsM c oS2 o2 ∗ ptsM c oS3 o3 ∗ ptsM c oS4 o4 ∗ ptsM c oS5 o5) : sProp 𝕄)
      ⊢ pts c main_v1 fullShare (joinO c o0 o1 o2 o3 o4 o5) :=
  BIBase.Entails.trans (Entails.of_eq (rows_six_join c o0 o1 o2 o3 o4 o5 _ _ _ _ _ _ set_oS0 set_oS1 set_oS2 set_oS3 set_oS4 set_oS5)) (out_split c (joinO c o0 o1 o2 o3 o4 o5)).2

/-- Two slots, one index of the first coordinate each, are all of a buffer of two. -/
theorem slots_disj {p q : ℕ} (i0 : ∀ a, (![0, 0, 0] : Fin 3 → ℕ) a + (⟨3, ![1, p, q]⟩ : Shape).size a ≤ (⟨3, ![2, p, q]⟩ : Shape).size a)
    (i1 : ∀ a, (![1, 0, 0] : Fin 3 → ℕ) a + (⟨3, ![1, p, q]⟩ : Shape).size a ≤ (⟨3, ![2, p, q]⟩ : Shape).size a) :
    Disjoint (Rect.unit (s := ⟨3, ![2, p, q]⟩) ![0, 0, 0] (⟨3, ![1, p, q]⟩ : Shape).size i0).set
      (Rect.unit (s := ⟨3, ![2, p, q]⟩) ![1, 0, 0] (⟨3, ![1, p, q]⟩ : Shape).size i1).set := by
  rw [Finset.disjoint_left]
  intro i h h'
  have h1 := (Rect.mem_set_unit.mp h) 0
  have h2 := (Rect.mem_set_unit.mp h') 0
  have e1 : (i 0 : ℕ) < 0 + 1 := h1.2
  have e2 : 1 ≤ (i 0 : ℕ) := h2.1
  omega
theorem slots_union {p q : ℕ} (i0 : ∀ a, (![0, 0, 0] : Fin 3 → ℕ) a + (⟨3, ![1, p, q]⟩ : Shape).size a ≤ (⟨3, ![2, p, q]⟩ : Shape).size a)
    (i1 : ∀ a, (![1, 0, 0] : Fin 3 → ℕ) a + (⟨3, ![1, p, q]⟩ : Shape).size a ≤ (⟨3, ![2, p, q]⟩ : Shape).size a) :
    (Rect.unit (s := ⟨3, ![2, p, q]⟩) ![0, 0, 0] (⟨3, ![1, p, q]⟩ : Shape).size i0).set
      ∪ (Rect.unit (s := ⟨3, ![2, p, q]⟩) ![1, 0, 0] (⟨3, ![1, p, q]⟩ : Shape).size i1).set = Finset.univ := by
  ext i
  refine ⟨fun _ => Finset.mem_univ _, fun _ => Finset.mem_union.mpr ?_⟩
  have h0 : (i 0).val < 2 := (i 0).isLt
  have h1 : (i 1).val < p := (i 1).isLt
  have h2 : (i 2).val < q := (i 2).isLt
  rcases Nat.lt_or_ge (i 0).val 1 with h | h
  · left
    rw [Rect.mem_set_unit]
    intro a
    match a with
    | ⟨0, _⟩ => exact ⟨Nat.zero_le _, by show (i 0).val < 0 + 1; omega⟩
    | ⟨1, _⟩ => exact ⟨Nat.zero_le _, by show _ < 0 + p; rw [Nat.zero_add]; exact h1⟩
    | ⟨2, _⟩ => exact ⟨Nat.zero_le _, by show _ < 0 + q; rw [Nat.zero_add]; exact h2⟩
  · right
    rw [Rect.mem_set_unit]
    intro a
    match a with
    | ⟨0, _⟩ => exact ⟨h, by show (i 0).val < 1 + 1; omega⟩
    | ⟨1, _⟩ => exact ⟨Nat.zero_le _, by show _ < 0 + p; rw [Nat.zero_add]; exact h1⟩
    | ⟨2, _⟩ => exact ⟨Nat.zero_le _, by show _ < 0 + q; rw [Nat.zero_add]; exact h2⟩

theorem setOn_whole (b : Ref sig .tc) (R : Rect b.ty.shape) : (Memref.whole b).view.setOn R.set = (R.set : Finset b.ty.shape.Idx) :=
  (View.set_slice _ R).symm.trans (View.set_slice_whole b R)

theorem two_split (c : Dev nD) (b : Ref sig .tc) (R R' : Rect b.ty.shape) (hd : Disjoint R.set R'.set) (hu : R.set ∪ R'.set = Finset.univ)
    (f : Buf (Elt F) ((c : Thread nD τ).loc b)) : (pts c b fullShare f : sProp 𝕄) ⊢ iprop(ptsOn c b R f ∗ ptsOn c b R' f) := by
  unfold pts ptsOn
  rw [setOn_whole, setOn_whole, View.set_whole, ← hu]
  exact (pointsTo_union hd).1
theorem two_join (c : Dev nD) (b : Ref sig .tc) (R R' : Rect b.ty.shape) (hd : Disjoint R.set R'.set) (hu : R.set ∪ R'.set = Finset.univ)
    (f g : Buf (Elt F) ((c : Thread nD τ).loc b)) : (iprop(ptsOn c b R f ∗ ptsOn c b R' g) : sProp 𝕄) ⊢ iprop(∃ h, pts c b fullShare h) := by
  unfold pts ptsOn
  rw [setOn_whole, setOn_whole, View.set_whole, ← hu]
  iintro H
  iexists _
  iapply (pointsTo_join hd) $$ H

/-! ## A round's one payload -/

theorem one_sndR (c : Dev nD) : bigSep ((haloRd (F := F) m).duties (sndR c) 0) (fun d => (haloRd (F := F) m).payload (sndR c) 0 d)
    = pts c cc0_scratch6 fullShare (rowOut m c) := by rw [duties_sndR, bigSep_singleton, tbl_sndR]
theorem one_sndC (c : Dev nD) : bigSep ((haloRd (F := F) m).duties (sndC c) 0) (fun d => (haloRd (F := F) m).payload (sndC c) 0 d)
    = pts c cc0_scratch7 fullShare (colOut m c) := by rw [duties_sndC, bigSep_singleton, tbl_sndC]
theorem one_rcvR (c : Dev nD) : bigSep ((haloRd (F := F) m).duties (rcvR c) 0) (fun d => (haloRd (F := F) m).payload (rcvR c) 0 d)
    = pts c cc0_scratch8 fullShare (rowOut m (rx c)) := by rw [duties_rcvR, bigSep_singleton, tbl_rcvR]
theorem one_rcvC (c : Dev nD) : bigSep ((haloRd (F := F) m).duties (rcvC c) 0) (fun d => (haloRd (F := F) m).payload (rcvC c) 0 d)
    = pts c cc0_scratch9 fullShare (colOut m (cy c)) := by rw [duties_rcvC, bigSep_singleton, tbl_rcvC]

/-! ## Transfers into a buffer in write mode -/

/-- What a core holds of the output in write mode: every element at share `q`, towards `g`, the elements `W` written. -/
abbrev wbO (c : Dev nD) (q : PosShare TreeShare) (f g : Buf (Elt F) ((c : Thread nD τ).loc main_v1))
    (W : Finset (Idx ((c : Thread nD τ).loc main_v1))) : sProp 𝕄 :=
  willBeTo EW ((c : Thread nD τ).loc main_v1) Finset.univ q f (fun i => some (g i)) W

theorem wp_patch (c : Dev nD) (ιw : ℕ) {s : Shape} {e : EltTy} {sp sp' : Space} {src : Memref sig (c : Thread nD τ).2.kind sp' s e}
    {dst : Memref sig (c : Thread nD τ).2.kind sp s e} {sm : SemLoc sig}
    {hsrc : src.view.WordExact} {hdst : dst.view.WordExact} {hsem : DmaTarget.Typed (nD := nD) sp' sm (.here dst)}
    {α : Type} {Q : α → sProp 𝕄} {k : PUnit → Prog (TpuEff nD τ sig (Elt F) Λ₀ (c : Thread nD τ).2) α}
    {q : PosShare TreeShare} {fs : Buf (Elt F) (src.view.loc (c : Thread nD τ))} {f g : Buf (Elt F) (dst.view.loc (c : Thread nD τ))}
    (N : ℕ) (hN : dst.view.amount sm = N) (hN0 : 0 < N)
    (hw : dst.view.Admitted (Elt F) (fun i => some (g i)) (src.view.read (Elt F) fs) Finset.univ) :
    iprop(wmInv EW ιw ∗ (src.view.loc (c : Thread nD τ) ↦[src.view.set]{fullShare} fs)
        ∗ willBeTo EW (dst.view.loc (c : Thread nD τ)) Finset.univ q f (fun i => some (g i)) ∅ ∗ semVal ((c : Thread nD τ), sm) 0)
      ⊢ iprop((Transfers.Flight countersEmb (c : Thread nD τ) sm default N
            iprop(willBeTo EW (dst.view.loc (c : Thread nD τ)) Finset.univ q f (fun i => some (g i)) (∅ ∪ dst.view.set)
              ∗ (src.view.loc (c : Thread nD τ) ↦[src.view.set]{fullShare} fs))
            -∗ wp frame (wpE (defs₀ (F := F)) Variants.none (c : Thread nD τ) none) Set.univ (k ⟨⟩) Q)
        -∗ wp frame (wpE (defs₀ (F := F)) Variants.none (c : Thread nD τ) none) Set.univ (.op (.enqueueDma src (.here dst) sm hsrc hdst hsem) k) Q) := by
  iintro ⟨#Hwm, Hs, Hd, Hv⟩ Hk
  imod (Transfers.flight_alloc countersEmb hN0
      iprop(willBeTo EW (dst.view.loc (c : Thread nD τ)) Finset.univ q f (fun i => some (g i)) (∅ ∪ dst.view.set)
              ∗ (src.view.loc (c : Thread nD τ) ↦[src.view.set]{fullShare} fs)) (g := ((c : Thread nD τ), sm))) $$ Hv with ⟨%γ, %δ, %κ, #Hinv, Hγ, Hδ⟩
  iapply (wp_enqueueDma Variants.none (c : Thread nD τ) none Set.univ (default : Unit) N hN) $$ [Hs Hd] [Hγ]
  · isplitl [Hs]; · iexact Hs
    iapply (willBeTo_writeUpdate (emb := EW) (ιwm := ιw) (c : Thread nD τ) (S := Finset.univ) (Finset.subset_univ _) hw)
    isplitr; · iexact Hwm
    iexact Hd
  · iapply (Transfers.flight_creditUpdate countersEmb (δ := δ))
    isplitr; · iexact Hinv
    iexact Hγ
  iintro Hcred
  iapply Hk
  iapply (Transfers.flight_intro countersEmb (c : Thread nD τ) (κ := κ))
  isplitr; · iexact Hinv
  isplitl [Hδ] <;> iassumption

/-- The output, held outright, goes into write mode, half for each of two writers. -/
theorem wm_enter (c : Dev nD) (ιw : ℕ) (f g : Buf (Elt F) ((c : Thread nD τ).loc main_v1)) :
    (iprop(wmInv EW ιw ∗ pts c main_v1 fullShare f) : sProp 𝕄)
      ⊢ iprop(|={Set.univ}=> (wbO c fullShare.left f g ∅ ∗ wbO c fullShare.right f g ∅)) := by
  unfold pts
  rw [View.set_whole]
  refine (pointsTo_castIn (emb := EW) (ιwm := ιw) (E := Set.univ) (fun i => some (g i))).trans ?_
  iintro H
  imod H
  imodintro
  icases H with ⟨Hl, Hr⟩
  isplitl [Hl] <;> iassumption

/-- Both halves back, the output is held outright, the target where written and as before elsewhere. -/
theorem wm_leave (c : Dev nD) (ιw : ℕ) (f g : Buf (Elt F) ((c : Thread nD τ).loc main_v1)) (V₁ V₂ : Finset (Idx ((c : Thread nD τ).loc main_v1))) :
    (iprop(wmInv EW ιw ∗ wbO c fullShare.left f g V₁ ∗ wbO c fullShare.right f g V₂) : sProp 𝕄)
      ⊢ iprop(|={Set.univ}=> pts c main_v1 fullShare ((V₁ ∪ V₂).piecewise g f)) := by
  unfold pts
  rw [View.set_whole]
  refine BIBase.Entails.trans ?_ (willBeTo_castOut_some (emb := EW) (ιwm := ιw) (E := Set.univ))
  iintro ⟨#Hw, Hl, Hr⟩
  isplitr; · iexact Hw
  icombine Hl Hr as H
  iexact H

end Cert.KernelIdeal.Halo

end
-- ==== Proof.KernelIdeal.Spec.lean ====
module

public import Idealize.ShloMosaic.Lib.ValueIdxCore
public import proofs.«01_k».proof.Proof.KernelIdeal.Parts

@[expose] public section

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU (Elt F)) ℕ

variable (m : (ℓ : Loc nD τ sig) → Buf (Elt F) ℓ) (ρ : Dev nD → PrngReg)

open Idealize.ShloMosaic.ValueIdx

/-- The element at row `i`, column `j` of device `c`'s block, rounded (rows and columns taken modulo the block's). -/
def xb (c : Dev nD) (i j : ℕ) : F .bf16 :=
  FloatOps.truncf .bf16 bitsLt_bf16_f32 (xin m c (ix2 ⟨i % 3072, Nat.mod_lt _ (by decide)⟩ ⟨j % 3072, Nat.mod_lt _ (by decide)⟩) : F .f32)

/-- One point of the stencil. -/
def sten (ce up dn lf rt : F .bf16) : F .bf16 :=
  FloatOps.addf (FloatOps.mulf (Scalar.ofBits .bf16 0x3F00#16) ce)
    (FloatOps.mulf (Scalar.ofBits .bf16 0x3E00#16) (FloatOps.addf (FloatOps.addf up dn) (FloatOps.addf lf rt)))

/-- Whether row `i`, column `j` of device `c`'s block lies on the border of the whole array. -/
def onEdge (c : Dev nD) (i j : ℕ) : Prop :=
  (c.val / 2 = 0 ∧ i = 0) ∨ (c.val / 2 = 1 ∧ i = 3071) ∨ (c.val % 2 = 0 ∧ j = 0) ∨ (c.val % 2 = 1 ∧ j = 3071)

instance (c : Dev nD) (i j : ℕ) : Decidable (onEdge c i j) := by unfold onEdge; infer_instance

/-- The result at row `i`, column `j` of device `c`'s block. -/
def specN (c : Dev nD) (i j : ℕ) : F .bf16 :=
  if onEdge c i j then xb m c i j
  else sten (xb m c i j)
    (if i = 0 then xb m (rx c) 3071 j else xb m c (i - 1) j)
    (if i = 3071 then xb m (rx c) 0 j else xb m c (i + 1) j)
    (if j = 0 then xb m (cy c) i 3071 else xb m c i (j - 1))
    (if j = 3071 then xb m (cy c) i 0 else xb m c i (j + 1))

/-- What device `c`'s output buffer ends at. -/
def spec (c : Dev nD) : Buf (Elt F) ((c : Thread nD τ).loc main_v1) :=
  fun (i : S3072x3072.Idx) => (specN m c (i 0).val (i 1).val : F .bf16)

theorem hold (c : Dev nD) (b : Ref sig .tc) (f : Buf (Elt F) ((c : Thread nD τ).loc b)) :
    (pts c b fullShare f : sProp 𝕄) ⊢ iprop(∃ G : Buf (Elt F) ((c : Thread nD τ).loc b), ⌜G = f⌝ ∗ pts c b fullShare G) := by
  iintro H
  iexists f
  isplitr; · ipureintro; rfl
  iexact H

/-- The columns of the output the edge patch goes to. -/
abbrev wA (c : Dev nD) := (Memref.whole main_v1).slice (Rect.unit (s := S3072x3072) (k0_off2 c) S3072x128.size (k0_off2_inb c)) (fun _ => rfl)
/-- The rows of the output the row patch goes to. -/
abbrev wB (c : Dev nD) := (Memref.whole main_v1).slice (Rect.unit (s := S3072x3072) (k0_off1 c) S8x3072.size (k0_off1_inb c)) (fun _ => rfl)

end Cert.KernelIdeal.Halo

end
-- ==== Proof.KernelIdeal.Value.lean ====
module

public import Idealize.ShloMosaic.Lib.Pipeline.Value
public import Idealize.ShloMosaic.Lib.ValueLayout
public import Idealize.ShloMosaic.Lib.WritesUnit
public import proofs.«01_k».proof.Proof.KernelIdeal.Spec

@[expose] public section

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU (Elt F)) ℕ

variable (m : (ℓ : Loc nD τ sig) → Buf (Elt F) ℓ) (ρ : Dev nD → PrngReg)

open Idealize.ShloMosaic.ValueIdx

/-! ## Vectors read at numbers

`Rep x f`: the rank-two vector `x` has at row `p`, column `q` the element `f p q`; `Rep3` the same below a leading unit axis. -/

section Rep
variable {α : Type}

def Rep {a b : ℕ} (x : (⟨2, ![a, b]⟩ : Shape).Idx → α) (f : ℕ → ℕ → α) : Prop :=
  ∀ (p q : ℕ) (hp : p < a) (hq : q < b), x (ix2 ⟨p, hp⟩ ⟨q, hq⟩) = f p q

def Rep3 {a b : ℕ} (x : (⟨3, ![1, a, b]⟩ : Shape).Idx → α) (f : ℕ → ℕ → α) : Prop :=
  ∀ (p q : ℕ) (hp : p < a) (hq : q < b), x (ix3 0 ⟨p, hp⟩ ⟨q, hq⟩) = f p q

theorem Rep.congr {a b : ℕ} {x : (⟨2, ![a, b]⟩ : Shape).Idx → α} {f g : ℕ → ℕ → α} (h : Rep x f)
    (e : ∀ p q, p < a → q < b → f p q = g p q) : Rep x g := fun p q hp hq => (h p q hp hq).trans (e p q hp hq)

theorem Rep3.congr {a b : ℕ} {x : (⟨3, ![1, a, b]⟩ : Shape).Idx → α} {f g : ℕ → ℕ → α} (h : Rep3 x f)
    (e : ∀ p q, p < a → q < b → f p q = g p q) : Rep3 x g := fun p q hp hq => (h p q hp hq).trans (e p q hp hq)

theorem Rep.slice {a b a' b' : ℕ} {x : (⟨2, ![a, b]⟩ : Shape).Idx → α} {f : ℕ → ℕ → α} (h : Rep x f) (o o' : ℕ)
    (hs : (⟨2, ![a, b]⟩ : Shape).Slices ![o, o'] ⟨2, ![a', b']⟩) :
    Rep (extractStridedSlice ⟨2, ![a', b']⟩ ![o, o'] x hs) (fun p q => f (o + p) (o' + q)) := by
  intro p q hp hq
  beta_reduce
  have h0 : o + a' ≤ a := hs.2 0
  have h1 : o' + b' ≤ b := hs.2 1
  rw [← h (o + p) (o' + q) (by omega) (by omega)]
  refine congrArg x (funext fun i => Fin.ext ?_)
  fin_cases i <;> rfl

theorem Rep.cat1 {a b b₁ b₂ : ℕ} {x : (⟨2, ![a, b₁]⟩ : Shape).Idx → α} {y : (⟨2, ![a, b₂]⟩ : Shape).Idx → α} {f g : ℕ → ℕ → α}
    (hx : Rep x f) (hy : Rep y g) (h : Shape.Concatenates [⟨2, ![a, b₁]⟩, ⟨2, ![a, b₂]⟩] ⟨2, ![a, b]⟩ 1) (hb : b = b₁ + b₂) :
    Rep (concatenate ⟨2, ![a, b]⟩ 1 [⟨⟨2, ![a, b₁]⟩, x⟩, ⟨⟨2, ![a, b₂]⟩, y⟩] h) (fun p q => if q < b₁ then f p q else g p (q - b₁)) := by
  intro p q hp hq
  beta_reduce
  by_cases hlt : q < b₁
  · rw [if_pos hlt, ← hx p q hp hlt]
    exact concatenate_pair_apply_left 1 x y h _ rfl _ (fun i => by fin_cases i <;> rfl)
  · rw [if_neg hlt, ← hy p (q - b₁) hp (by omega)]
    refine concatenate_pair_apply_right 1 x y h _ rfl rfl _ (fun i hi => ?_) ?_
    · fin_cases i
      · rfl
      · exact absurd rfl hi
    · show q - b₁ + b₁ = q
      omega

theorem Rep.cat0 {a b a₁ a₂ : ℕ} {x : (⟨2, ![a₁, b]⟩ : Shape).Idx → α} {y : (⟨2, ![a₂, b]⟩ : Shape).Idx → α} {f g : ℕ → ℕ → α}
    (hx : Rep x f) (hy : Rep y g) (h : Shape.Concatenates [⟨2, ![a₁, b]⟩, ⟨2, ![a₂, b]⟩] ⟨2, ![a, b]⟩ 0) (hb : a = a₁ + a₂) :
    Rep (concatenate ⟨2, ![a, b]⟩ 0 [⟨⟨2, ![a₁, b]⟩, x⟩, ⟨⟨2, ![a₂, b]⟩, y⟩] h) (fun p q => if p < a₁ then f p q else g (p - a₁) q) := by
  intro p q hp hq
  beta_reduce
  by_cases hlt : p < a₁
  · rw [if_pos hlt, ← hx p q hlt hq]
    exact concatenate_pair_apply_left 0 x y h _ rfl _ (fun i => by fin_cases i <;> rfl)
  · rw [if_neg hlt, ← hy (p - a₁) q (by omega) hq]
    refine concatenate_pair_apply_right 0 x y h _ rfl rfl _ (fun i hi => ?_) ?_
    · fin_cases i
      · exact absurd rfl hi
      · rfl
    · show p - a₁ + a₁ = p
      omega

theorem Rep.const {a b : ℕ} (z : α) : Rep (broadcast ⟨2, ![a, b]⟩ z) (fun _ _ => z) := fun _ _ _ _ => rfl

theorem Rep.self {a b : ℕ} {x : (⟨2, ![a, b]⟩ : Shape).Idx → α} {f : ℕ → ℕ → α} (h : Rep x f) (hc : (⟨2, ![a, b]⟩ : Shape).ShapeCasts ⟨2, ![a, b]⟩) :
    Rep (shapeCast ⟨2, ![a, b]⟩ x hc) f := by rw [shapeCast_self]; exact h

theorem Rep.up {a b : ℕ} {x : (⟨2, ![a, b]⟩ : Shape).Idx → α} {f : ℕ → ℕ → α} (h : Rep x f) (hc : (⟨2, ![a, b]⟩ : Shape).ShapeCasts ⟨3, ![1, a, b]⟩) :
    Rep3 (shapeCast ⟨3, ![1, a, b]⟩ x hc) f := by
  intro p q hp hq
  beta_reduce
  rw [← h p q hp hq]
  show x (Shape.reshapeEquiv hc _) = _
  refine congrArg x (Shape.reshapeEquiv_eq_of_rowMajor hc ?_)
  rw [Shape.rowMajor_val_three, Shape.rowMajor_val_two]
  show p * b + q = (0 * a + p) * b + q
  simp only [Nat.zero_mul, Nat.zero_add]

theorem Rep3.down {a b : ℕ} {x : (⟨3, ![1, a, b]⟩ : Shape).Idx → α} {f : ℕ → ℕ → α} (h : Rep3 x f) (hc : (⟨3, ![1, a, b]⟩ : Shape).ShapeCasts ⟨2, ![a, b]⟩) :
    Rep (shapeCast ⟨2, ![a, b]⟩ x hc) f := by
  intro p q hp hq
  beta_reduce
  rw [← h p q hp hq]
  show x (Shape.reshapeEquiv hc _) = _
  rw [reshapeEquiv_ix2_1ab]
  rfl

theorem Rep.pick_t {a b : ℕ} {x y : (⟨2, ![a, b]⟩ : Shape).Idx → α} {f : ℕ → ℕ → α} {u v : BitVec 32} (h : Rep x f) (e : u = v) :
    Rep (Scalar.select (Scalar.cmpi .eq u v) x y) f := by
  subst e
  have : Scalar.cmpi .eq u u = 1#1 := by simp [Scalar.cmpi, IntOp.cmpi]
  rw [this]; exact h

theorem Rep.pick_f {a b : ℕ} {x y : (⟨2, ![a, b]⟩ : Shape).Idx → α} {f : ℕ → ℕ → α} {u v : BitVec 32} (h : Rep y f) (e : u ≠ v) :
    Rep (Scalar.select (Scalar.cmpi .eq u v) x y) f := by
  have h2 : (u == v) = false := beq_false_of_ne e
  have : Scalar.cmpi .eq u v = 0#1 := by simp [Scalar.cmpi, IntOp.cmpi, h2]
  rw [this]; exact h
end Rep

theorem Rep.add {a b : ℕ} {x y : FVec F ⟨2, ![a, b]⟩ .bf16} {f g : ℕ → ℕ → F .bf16} (hx : Rep x f) (hy : Rep y g) :
    Rep (addf x y) (fun p q => FloatOps.addf (f p q) (g p q)) := fun p q hp hq => by
  beta_reduce
  rw [← hx p q hp hq, ← hy p q hp hq]; rfl

theorem Rep.mul {a b : ℕ} {x y : FVec F ⟨2, ![a, b]⟩ .bf16} {f g : ℕ → ℕ → F .bf16} (hx : Rep x f) (hy : Rep y g) :
    Rep (mulf x y) (fun p q => FloatOps.mulf (f p q) (g p q)) := fun p q hp hq => by
  beta_reduce
  rw [← hx p q hp hq, ← hy p q hp hq]; rfl

theorem Rep.trunc {a b : ℕ} {x : FVec F ⟨2, ![a, b]⟩ .f32} {f : ℕ → ℕ → F .f32} (hx : Rep x f) :
    Rep (truncf .bf16 x bitsLt_bf16_f32) (fun p q => FloatOps.truncf .bf16 bitsLt_bf16_f32 (f p q)) := fun p q hp hq => by
  beta_reduce
  rw [← hx p q hp hq]; rfl

/-! ## The payloads of one chunk -/

/-- Rounding. -/
abbrev rnd (z : F .f32) : F .bf16 := FloatOps.truncf .bf16 bitsLt_bf16_f32 z

section Chunk
variable {v : Vec F S1x528x3072 .f32} {t : ℕ → ℕ → F .f32}

theorem pay3_at (h : Rep3 v t) : Rep (k0_pay3 v) (fun p q => rnd (t p q)) := (h.down shapeCasts_S1x528x3072_S528x3072).trunc
theorem pay4_at (h : Rep3 v t) : Rep (k0_pay4 v) (fun p q => rnd (t (8 + p) (0 + q))) := (pay3_at h).slice 8 0 slices_S528x3072_o8_0_S512x3072

theorem pay5_at (h : Rep3 v t) : Rep3 (k0_pay5 v) (fun p q => sten (rnd (t (8 + p) q)) (rnd (t (7 + p) q)) (rnd (t (9 + p) q))
    (rnd (t (8 + p) (if q = 0 then 0 else q - 1))) (rnd (t (8 + p) (if q = 3071 then 0 else q + 1)))) := by
  have h4 := pay4_at h
  have h3 := pay3_at h
  have hl := (h4.slice 0 0 slices_S512x3072_o0_0_S512x1).cat1 (h4.slice 0 0 slices_S512x3072_o0_0_S512x3071) concatenates_S512x1_S512x3071_S512x3072_d1 rfl
  have hr := (h4.slice 0 1 slices_S512x3072_o0_1_S512x3071).cat1 (h4.slice 0 0 slices_S512x3072_o0_0_S512x1) concatenates_S512x3071_S512x1_S512x3072_d1 rfl
  have hu := h3.slice 7 0 slices_S528x3072_o7_0_S512x3072
  have hd := h3.slice 9 0 slices_S528x3072_o9_0_S512x3072
  have := (((Rep.const (Scalar.ofBits .bf16 0x3F00#16 : F .bf16)).mul h4).add ((Rep.const (Scalar.ofBits .bf16 0x3E00#16 : F .bf16)).mul ((hu.add hd).add (hl.add hr)))).up shapeCasts_S512x3072_S1x512x3072
  refine Rep3.congr this fun p q hp hq => ?_
  unfold sten
  simp only [Nat.zero_add]
  congr 2
  congr 1
  congr 1
  · by_cases h0 : q = 0
    · subst h0; rfl
    · rw [if_neg (by omega), if_neg h0]
  · by_cases h0 : q = 3071
    · subst h0; rfl
    · rw [if_pos (by omega), if_neg h0, Nat.add_comm 1 q]

theorem pay6_at (h : Rep3 v t) : Rep3 (k0_pay6 v) (fun p q => rnd (t (8 + (0 + p)) (0 + (0 + q)))) :=
  ((pay4_at h).slice 0 0 slices_S512x3072_o0_0_S512x1).up shapeCasts_S512x1_S1x512x1
theorem pay7_at (h : Rep3 v t) : Rep3 (k0_pay7 v) (fun p q => rnd (t (8 + (0 + p)) (0 + (3071 + q)))) :=
  ((pay4_at h).slice 0 3071 slices_S512x3072_o0_3071_S512x1).up shapeCasts_S512x1_S1x512x1
theorem pay8_at (h : Rep3 v t) : Rep3 (k0_pay8 v) (fun p q => rnd (t (8 + (0 + p)) (0 + (0 + q)))) :=
  ((pay4_at h).slice 0 0 slices_S512x3072_o0_0_S1x3072).up shapeCasts_S1x3072_S1x1x3072
theorem pay35_at (h : Rep3 v t) : Rep3 (k0_pay35 (k0_pay31 v)) (fun p q => rnd (t (8 + (511 + p)) (0 + (0 + q)))) :=
  ((pay4_at h).slice 511 0 slices_S512x3072_o511_0_S1x3072).up shapeCasts_S1x3072_S1x1x3072
end Chunk
theorem pay11_eq (v : Vec F S1x528x3072 .f32) : k0_pay11 v = k0_pay5 v := rfl
theorem pay16_eq (v : Vec F S1x528x3072 .f32) : k0_pay16 v = k0_pay5 v := rfl
theorem pay22_eq (v : Vec F S1x528x3072 .f32) : k0_pay22 (k0_pay21 v) = k0_pay5 v := rfl
theorem pay27_eq (v : Vec F S1x528x3072 .f32) : k0_pay27 v = k0_pay5 v := rfl
theorem pay32_eq (v : Vec F S1x528x3072 .f32) : k0_pay32 v = k0_pay5 v := rfl

/-! ## Where a device lies in the mesh, and the body's conditions on it -/

theorem div_cases (c : Dev nD) : c.val / 2 = 0 ∨ c.val / 2 = 1 := by revert c; decide
theorem mod_cases (c : Dev nD) : c.val % 2 = 0 ∨ c.val % 2 = 1 := by revert c; decide
theorem xw_zero (c : Dev nD) (h : c.val / 2 = 0) : xw c = 0#32 := by revert c; decide
theorem xw_one (c : Dev nD) (h : c.val / 2 = 1) : xw c = 1#32 := by revert c; decide
theorem yw_zero (c : Dev nD) (h : c.val % 2 = 0) : yw c = 0#32 := by revert c; decide
theorem yw_one (c : Dev nD) (h : c.val % 2 = 1) : yw c = 1#32 := by revert c; decide
theorem rx_div (c : Dev nD) : (rx c).val / 2 = 1 - c.val / 2 := by revert c; decide
theorem cy_mod (c : Dev nD) : (cy c).val % 2 = 1 - c.val % 2 := by revert c; decide

/-- A word comparison widened and tested, as the body's conditions are written. -/
abbrev tst (u v : BitVec 32) : BitVec 1 := Scalar.cmpi .ne (Scalar.extui (Scalar.cmpi .eq u v) : BitVec 32) 0#32
theorem tx0 (c : Dev nD) : tst (xw c) 0#32 = 1#1 ↔ c.val / 2 = 0 := by revert c; decide
theorem tx1 (c : Dev nD) : tst (xw c) 1#32 = 1#1 ↔ c.val / 2 = 1 := by revert c; decide
theorem ty0 (c : Dev nD) : tst (yw c) 0#32 = 1#1 ↔ c.val % 2 = 0 := by revert c; decide
theorem ty1 (c : Dev nD) : tst (yw c) 1#32 = 1#1 ↔ c.val % 2 = 1 := by revert c; decide

/-! ## Buffers after stores -/

theorem wcons_in (b : Ref sig .tc) (f : b.ty.Contents (Elt F)) {off size : Fin b.ty.shape.rank → ℕ} (inb : ∀ a, off a + size a ≤ b.ty.shape.size a)
    (w : (Rect.unit off size inb).shape.Idx → Elt F b.ty.elt) (L : List (View.Piece (Elt F) b.ty.shape b.ty.elt)) (y : b.ty.shape.Idx)
    (x : (Rect.unit off size inb).shape.Idx) (hx : ∀ a, (y a).val = off a + (x a).val) :
    (Memref.whole b).view.writes (Elt F) f (⟨Rect.unit off size inb, w⟩ :: L) y = w x := by
  have h := View.read_writes_cons_unit_of_mem (Val := Elt F) (Memref.whole b).view f inb w L y x rfl hx
  rwa [View.read_whole] at h

theorem wcons_out (b : Ref sig .tc) (f : b.ty.Contents (Elt F)) {off size : Fin b.ty.shape.rank → ℕ} (inb : ∀ a, off a + size a ≤ b.ty.shape.size a)
    (w : (Rect.unit off size inb).shape.Idx → Elt F b.ty.elt) (L : List (View.Piece (Elt F) b.ty.shape b.ty.elt)) (y : b.ty.shape.Idx)
    (a : Fin b.ty.shape.rank) (ha : (y a).val < off a ∨ off a + size a ≤ (y a).val) :
    (Memref.whole b).view.writes (Elt F) f (⟨Rect.unit off size inb, w⟩ :: L) y = (Memref.whole b).view.writes (Elt F) f L y := by
  have h := View.read_writes_cons_unit_of_not_mem (Val := Elt F) (Memref.whole b).view f inb w L y rfl a ha
  rwa [View.read_whole, View.read_whole] at h

theorem wnil (b : Ref sig .tc) (f : b.ty.Contents (Elt F)) (y : b.ty.shape.Idx) : (Memref.whole b).view.writes (Elt F) f [] y = f y := rfl

section Slot
variable (s : ℕ) (hs : s < 2) (f : (cc0_scratch1 : Ref sig .tc).ty.Contents (Elt F))
  (i1 : ∀ a, (![s, 0, 0] : Fin 3 → ℕ) a + S1x512x3072.size a ≤ S2x512x3072.size a)
  (i2 : ∀ a, (![s, 0, 0] : Fin 3 → ℕ) a + S1x512x1.size a ≤ S2x512x3072.size a)
  (i3 : ∀ a, (![s, 0, 3071] : Fin 3 → ℕ) a + S1x512x1.size a ≤ S2x512x3072.size a)

/-- A slot of the output buffer after the chunk's store and the two columns put right where the device is at the array's side. -/
theorem slot_val (P0 P1 : Prop) [Decidable P0] [Decidable P1]
    (w : FVec F S1x512x3072 .bf16) (a b : FVec F S1x512x1 .bf16) {W A B : ℕ → ℕ → F .bf16} (hw : Rep3 w W) (ha : Rep3 a A) (hb : Rep3 b B)
    (r j : ℕ) (hr : r < 512) (hj : j < 3072) :
    (if hc : P1 then
        (Memref.whole cc0_scratch1).view.writes (Elt F)
          (if hc : P0 then
            (Memref.whole cc0_scratch1).view.writes (Elt F) f
              (⟨Rect.unit (s := S2x512x3072) ![s, 0, 0] S1x512x1.size i2, a⟩ :: [⟨Rect.unit (s := S2x512x3072) ![s, 0, 0] S1x512x3072.size i1, w⟩])
          else (Memref.whole cc0_scratch1).view.writes (Elt F) f [⟨Rect.unit (s := S2x512x3072) ![s, 0, 0] S1x512x3072.size i1, w⟩])
          [⟨Rect.unit (s := S2x512x3072) ![s, 0, 3071] S1x512x1.size i3, b⟩]
      else
        if hc : P0 then
          (Memref.whole cc0_scratch1).view.writes (Elt F) f
            (⟨Rect.unit (s := S2x512x3072) ![s, 0, 0] S1x512x1.size i2, a⟩ :: [⟨Rect.unit (s := S2x512x3072) ![s, 0, 0] S1x512x3072.size i1, w⟩])
        else (Memref.whole cc0_scratch1).view.writes (Elt F) f [⟨Rect.unit (s := S2x512x3072) ![s, 0, 0] S1x512x3072.size i1, w⟩] :
        (cc0_scratch1 : Ref sig .tc).ty.Contents (Elt F)) (ix3 ⟨s, hs⟩ ⟨r, hr⟩ ⟨j, hj⟩)
      = if P1 ∧ j = 3071 then B r 0 else if P0 ∧ j = 0 then A r 0 else W r j := by
  have hW : (Memref.whole cc0_scratch1).view.writes (Elt F) f [⟨Rect.unit (s := S2x512x3072) ![s, 0, 0] S1x512x3072.size i1, w⟩] (ix3 ⟨s, hs⟩ ⟨r, hr⟩ ⟨j, hj⟩) = W r j := by
    rw [← hw r j hr hj]
    refine wcons_in cc0_scratch1 f i1 w [] _ (ix3 0 ⟨r, hr⟩ ⟨j, hj⟩) (fun a => ?_)
    fin_cases a
    · rfl
    · exact (Nat.zero_add _).symm
    · exact (Nat.zero_add _).symm
  have hI : (if hc : P0 then
            (Memref.whole cc0_scratch1).view.writes (Elt F) f
              (⟨Rect.unit (s := S2x512x3072) ![s, 0, 0] S1x512x1.size i2, a⟩ :: [⟨Rect.unit (s := S2x512x3072) ![s, 0, 0] S1x512x3072.size i1, w⟩])
          else (Memref.whole cc0_scratch1).view.writes (Elt F) f [⟨Rect.unit (s := S2x512x3072) ![s, 0, 0] S1x512x3072.size i1, w⟩] :
          (cc0_scratch1 : Ref sig .tc).ty.Contents (Elt F)) (ix3 ⟨s, hs⟩ ⟨r, hr⟩ ⟨j, hj⟩) = if P0 ∧ j = 0 then A r 0 else W r j := by
    by_cases h0 : P0
    · rw [dif_pos h0]
      by_cases hj0 : j = 0
      · subst hj0
        rw [if_pos ⟨h0, rfl⟩, ← ha r 0 hr (by decide)]
        refine wcons_in cc0_scratch1 f i2 a _ _ (ix3 0 ⟨r, hr⟩ ⟨0, by decide⟩) (fun a => ?_)
        fin_cases a
        · rfl
        · exact (Nat.zero_add _).symm
        · rfl
      · rw [if_neg (fun h => hj0 h.2), ← hW]
        exact wcons_out cc0_scratch1 f i2 a _ _ 2 (Or.inr (show 0 + 1 ≤ j by omega))
    · rw [dif_neg h0, if_neg (fun h => h0 h.1), hW]
  by_cases h1 : P1
  · rw [dif_pos h1]
    by_cases hj1 : j = 3071
    · subst hj1
      rw [if_pos ⟨h1, rfl⟩, ← hb r 0 hr (by decide)]
      refine wcons_in cc0_scratch1 _ i3 b _ _ (ix3 0 ⟨r, hr⟩ ⟨0, by decide⟩) (fun a => ?_)
      fin_cases a
      · rfl
      · exact (Nat.zero_add _).symm
      · rfl
    · rw [if_neg (fun h => hj1 h.2), ← hI]
      exact wcons_out cc0_scratch1 _ i3 b [] _ 2 (Or.inl (show j < 3071 by omega))
  · rw [dif_neg h1, if_neg (fun h => h1 h.1), hI]

/-- The slot after one row has been put right as well, through a store of two rows. -/
theorem row_val (g : (cc0_scratch1 : Ref sig .tc).ty.Contents (Elt F)) (P : Prop) [Decidable P] (ro ri : ℕ) (hri : ri < 2)
    (i4 : ∀ a, (![s, ro, 0] : Fin 3 → ℕ) a + S1x2x3072.size a ≤ S2x512x3072.size a)
    (sl : S1x2x3072.Slices ![0, ri, 0] S1x1x3072) (u : FVec F S1x1x3072 .bf16) {U : ℕ → ℕ → F .bf16} (hu : Rep3 u U)
    (r j : ℕ) (hr : r < 512) (hj : j < 3072) :
    (if hc : P then
        (Memref.whole cc0_scratch1).view.writes (Elt F) g
          [⟨Rect.unit (s := S2x512x3072) ![s, ro, 0] S1x2x3072.size i4,
            updateSlice (s := S1x2x3072) (View.readAt (Elt F) (Memref.whole cc0_scratch1).view (Rect.unit (s := S2x512x3072) ![s, ro, 0] S1x2x3072.size i4).toLoadRect g) u ![0, ri, 0] sl⟩]
      else g : (cc0_scratch1 : Ref sig .tc).ty.Contents (Elt F)) (ix3 ⟨s, hs⟩ ⟨r, hr⟩ ⟨j, hj⟩)
      = if P ∧ r = ro + ri then U 0 j else g (ix3 ⟨s, hs⟩ ⟨r, hr⟩ ⟨j, hj⟩) := by
  by_cases h : P
  · rw [dif_pos h]
    by_cases hin : ro ≤ r ∧ r < ro + 2
    · refine (wcons_in cc0_scratch1 g i4 _ [] _ (ix3 0 ⟨r - ro, by omega⟩ ⟨j, hj⟩) (fun a => ?_)).trans ?_
      · fin_cases a
        · rfl
        · show r = ro + (r - ro); omega
        · exact (Nat.zero_add _).symm
      · unfold updateSlice
        by_cases hr0 : r = ro + ri
        · rw [if_pos ⟨h, hr0⟩, dif_pos (fun a => by
            fin_cases a
            · exact ⟨le_rfl, Nat.one_pos⟩
            · exact ⟨show ri ≤ r - ro by omega, show r - ro < ri + 1 by omega⟩
            · exact ⟨Nat.zero_le _, show j < 0 + 3072 by omega⟩)]
          rw [← hu 0 j (by decide) hj]
          refine congrArg u (funext fun a => Fin.ext ?_)
          fin_cases a
          · rfl
          · show r - ro - ri = 0; omega
          · rfl
        · rw [if_neg (fun h' => hr0 h'.2), dif_neg (fun h' => by
            have := h' 1
            have h1 : ri ≤ r - ro := this.1
            have h2 : r - ro < ri + 1 := this.2
            omega)]
          show g _ = g _
          refine congrArg g (funext fun a => Fin.ext ?_)
          fin_cases a
          · rfl
          · show ro + 1 * (r - ro) = r; omega
          · show 0 + 1 * j = j; omega
    · rw [if_neg (fun h' => hin ⟨by omega, by omega⟩)]
      exact wcons_out cc0_scratch1 g i4 _ [] _ 1 (by show r < ro ∨ ro + 2 ≤ r; omega)
  · rw [dif_neg h, if_neg (fun h' => h h'.1)]
end Slot

/-! ## A chunk's input -/

/-- The vector a chunk's load gives, read at numbers. -/
def tv (v : Vec F S1x528x3072 .f32) (p q : ℕ) : F .f32 := v (ix3 0 ⟨p % 528, Nat.mod_lt _ (by decide)⟩ ⟨q % 3072, Nat.mod_lt _ (by decide)⟩)
theorem tv_at (v : Vec F S1x528x3072 .f32) : Rep3 v (tv v) := by
  intro p q hp hq
  unfold tv
  congr 2
  · exact Fin.ext (Nat.mod_eq_of_lt hp).symm
  · exact Fin.ext (Nat.mod_eq_of_lt hq).symm

/-- What a chunk's load finds where the chunk's transfer has landed. -/
theorem load_at (c : Dev nD) (s o P ro : ℕ) (hs : s < 2) (g : (cc0_scratch0 : Ref sig .tc).ty.Contents (Elt F))
    (il : ∀ a, (![s, 0, 0] : Fin 3 → ℕ) a + S1x528x3072.size a ≤ S2x528x3072.size a)
    (ix : ∀ a, (![s, o, 0] : Fin 3 → ℕ) a + (⟨3, ![1, P, 3072]⟩ : Shape).size a ≤ S2x528x3072.size a)
    (ir : ∀ a, (![ro, 0] : Fin 2 → ℕ) a + (⟨2, ![P, 3072]⟩ : Shape).size a ≤ S3072x3072.size a)
    (h1 h2) (hq : (⟨3, ![1, P, 3072]⟩ : Shape).Squeezes ⟨2, ![P, 3072]⟩)
    (p q : ℕ) (hp : p < 528) (hq' : q < 3072) (ho : o ≤ p) (ho' : p < o + P) :
    rnd (tv (View.readAt (Elt F) (Memref.whole cc0_scratch0).view (Rect.unit (s := S2x528x3072) ![s, 0, 0] S1x528x3072.size il).toLoadRect
      (View.write (Elt F) (((Memref.whole cc0_scratch0).slice (Rect.unit (s := S2x528x3072) ![s, o, 0] (⟨3, ![1, P, 3072]⟩ : Shape).size ix) h1).squeeze ⟨2, ![P, 3072]⟩ hq).view g
        (ReadAs.same.apply (View.read (Elt F) ((Memref.whole main_arg0).slice (Rect.unit (s := S3072x3072) ![ro, 0] (⟨2, ![P, 3072]⟩ : Shape).size ir) h2).view (m ((c : Thread nD τ).loc main_arg0)))) Finset.univ)) p q)
      = xb m c (ro + p - o) q := by
  have hro : ro + P ≤ 3072 := ir 0
  have ht := tv_at (View.readAt (Elt F) (Memref.whole cc0_scratch0).view (Rect.unit (s := S2x528x3072) ![s, 0, 0] S1x528x3072.size il).toLoadRect
      (View.write (Elt F) (((Memref.whole cc0_scratch0).slice (Rect.unit (s := S2x528x3072) ![s, o, 0] (⟨3, ![1, P, 3072]⟩ : Shape).size ix) h1).squeeze ⟨2, ![P, 3072]⟩ hq).view g
        (ReadAs.same.apply (View.read (Elt F) ((Memref.whole main_arg0).slice (Rect.unit (s := S3072x3072) ![ro, 0] (⟨2, ![P, 3072]⟩ : Shape).size ir) h2).view (m ((c : Thread nD τ).loc main_arg0)))) Finset.univ)) p q hp hq'
  rw [← ht]
  unfold xb
  refine congrArg (rnd (F := F)) ?_
  have hv := View.write_emb_of_mem (Val := Elt F) (v := (((Memref.whole cc0_scratch0).slice (Rect.unit (s := S2x528x3072) ![s, o, 0] (⟨3, ![1, P, 3072]⟩ : Shape).size ix) h1).squeeze ⟨2, ![P, 3072]⟩ hq).view) g
    (ReadAs.same.apply (View.read (Elt F) ((Memref.whole main_arg0).slice (Rect.unit (s := S3072x3072) ![ro, 0] (⟨2, ![P, 3072]⟩ : Shape).size ir) h2).view (m ((c : Thread nD τ).loc main_arg0))))
    (M := Finset.univ) (x := ix2 ⟨p - o, by omega⟩ ⟨q, hq'⟩) (Finset.mem_univ _)
  have he : (((Memref.whole cc0_scratch0).slice (Rect.unit (s := S2x528x3072) ![s, o, 0] (⟨3, ![1, P, 3072]⟩ : Shape).size ix) h1).squeeze ⟨2, ![P, 3072]⟩ hq).view.emb (ix2 ⟨p - o, by omega⟩ ⟨q, hq'⟩)
      = (ix3 ⟨s, hs⟩ ⟨p, hp⟩ ⟨q, hq'⟩ : S2x528x3072.Idx) := by
    show (Rect.unit (s := S2x528x3072) ![s, o, 0] (⟨3, ![1, P, 3072]⟩ : Shape).size ix).emb (Shape.reshapeEquiv hq.numel_eq _) = _
    rw [reshapeEquiv_ix2_1ab]
    funext a
    apply Fin.ext
    fin_cases a
    · show s + 1 * 0 = s; omega
    · show o + 1 * (p - o) = p; omega
    · show 0 + 1 * q = q; omega
  rw [he] at hv
  refine Eq.trans ?_ (hv.trans ?_)
  · rw [View.readAt_apply, View.read_whole]
    congr 1
    funext a
    apply Fin.ext
    fin_cases a
    · show s + 1 * 0 = s; omega
    · show 0 + 1 * p = p; omega
    · show 0 + 1 * q = q; omega
  · show m ((c : Thread nD τ).loc main_arg0) _ = m ((c : Thread nD τ).loc main_arg0) _
    congr 1
    funext a
    apply Fin.ext
    fin_cases a
    · show ro + 1 * (p - o) = (ro + p - o) % 3072
      rw [Nat.mod_eq_of_lt (by omega)]; omega
    · show 0 + 1 * q = q % 3072
      rw [Nat.mod_eq_of_lt hq']; omega

/-! ## A chunk's output is the specification off the two patched strips -/

section Ok
variable (c : Dev nD) (k : ℕ) (hk : k < 6) (t : ℕ → ℕ → F .f32)
  (ht : ∀ p q, p < 528 → q < 3072 → 8 ≤ 512 * k + p → 512 * k + p < 3080 → rnd (t p q) = xb m c (512 * k + p - 8) q)
  (r j : ℕ) (hr : r < 512) (hj : j < 3072)
include hk ht hr hj

theorem edge_ok (he : onEdge c (512 * k + r) j) : rnd (t (8 + r) j) = specN m c (512 * k + r) j := by
  rw [ht (8 + r) j (by omega) hj (by omega) (by omega), show 512 * k + (8 + r) - 8 = 512 * k + r by omega]
  unfold specN
  rw [if_pos he]

theorem chunk_ok (P0 P1 : Prop) [Decidable P0] [Decidable P1] (h0 : P0 ↔ c.val % 2 = 0) (h1 : P1 ↔ c.val % 2 = 1)
    (hA0 : c.val % 2 = 0 → j < 2944) (hA1 : c.val % 2 = 1 → 128 ≤ j)
    (hB0 : c.val / 2 = 0 → 512 * k + r < 3064) (hB1 : c.val / 2 = 1 → 8 ≤ 512 * k + r)
    (hx0 : c.val / 2 = 0 → 512 * k + r ≠ 0) (hx1 : c.val / 2 = 1 → 512 * k + r ≠ 3071) :
    (if P1 ∧ j = 3071 then rnd (t (8 + (0 + r)) (0 + (3071 + 0))) else if P0 ∧ j = 0 then rnd (t (8 + (0 + r)) (0 + (0 + 0)))
      else sten (rnd (t (8 + r) j)) (rnd (t (7 + r) j)) (rnd (t (9 + r) j))
        (rnd (t (8 + r) (if j = 0 then 0 else j - 1))) (rnd (t (8 + r) (if j = 3071 then 0 else j + 1)))) = specN m c (512 * k + r) j := by
  have hm := mod_cases c
  have hd := div_cases c
  by_cases e1 : P1 ∧ j = 3071
  · obtain ⟨e, rfl⟩ := e1
    rw [if_pos ⟨e, rfl⟩]
    simp only [Nat.zero_add, Nat.add_zero]
    exact edge_ok m c k hk t ht r 3071 hr hj (Or.inr (Or.inr (Or.inr ⟨h1.mp e, rfl⟩)))
  · rw [if_neg e1]
    by_cases e0 : P0 ∧ j = 0
    · obtain ⟨e, rfl⟩ := e0
      rw [if_pos ⟨e, rfl⟩]
      simp only [Nat.zero_add, Nat.add_zero]
      exact edge_ok m c k hk t ht r 0 hr hj (Or.inr (Or.inr (Or.inl ⟨h0.mp e, rfl⟩)))
    · rw [if_neg e0]
      have n0 : j ≠ 0 := fun h => by
        rcases hm with hm | hm
        · exact e0 ⟨h0.mpr hm, h⟩
        · have := hA1 hm; omega
      have n1 : j ≠ 3071 := fun h => by
        rcases hm with hm | hm
        · have := hA0 hm; omega
        · exact e1 ⟨h1.mpr hm, h⟩
      have n2 : 512 * k + r ≠ 0 := fun h => by
        rcases hd with hd | hd
        · exact hx0 hd h
        · have := hB1 hd; omega
      have n3 : 512 * k + r ≠ 3071 := fun h => by
        rcases hd with hd | hd
        · have := hB0 hd; omega
        · exact hx1 hd h
      unfold specN
      rw [if_neg (show ¬ onEdge c (512 * k + r) j by unfold onEdge; omega), if_neg n2, if_neg n3, if_neg n0, if_neg n1]
      try rw [if_neg n0]
      try rw [if_neg n1]
      rw [ht (8 + r) j (by omega) hj (by omega) (by omega), ht (7 + r) j (by omega) hj (by omega) (by omega), ht (9 + r) j (by omega) hj (by omega) (by omega),
        ht (8 + r) (j - 1) (by omega) (by omega) (by omega) (by omega), ht (8 + r) (j + 1) (by omega) (by omega) (by omega) (by omega)]
      rw [show 512 * k + (8 + r) - 8 = 512 * k + r by omega, show 512 * k + (7 + r) - 8 = 512 * k + r - 1 by omega, show 512 * k + (9 + r) - 8 = 512 * k + r + 1 by omega]
end Ok

end Cert.KernelIdeal.Halo
-- ==== Proof.KernelIdeal.Patch.lean ====
module

public import proofs.«01_k».proof.Proof.KernelIdeal.Value

@[expose] public section

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU (Elt F)) ℕ

variable (m : (ℓ : Loc nD τ sig) → Buf (Elt F) ℓ) (ρ : Dev nD → PrngReg)

open Idealize.ShloMosaic.ValueIdx

/-! ## The tiles the patches are computed from -/

/-- Device `c`'s block at row `i`, column `j` (taken modulo the block's). -/
def xv (c : Dev nD) (i j : ℕ) : F .f32 := xin m c (ix2 ⟨i % 3072, Nat.mod_lt _ (by decide)⟩ ⟨j % 3072, Nat.mod_lt _ (by decide)⟩)
theorem rnd_xv (c : Dev nD) (i j : ℕ) : FloatOps.truncf .bf16 bitsLt_bf16_f32 (xv m c i j) = xb m c i j := rfl

theorem o1_0 (c : Dev nD) (h : c.val / 2 = 0) : k0_off1 c = ![3064, 0] := by revert c; decide
theorem o1_1 (c : Dev nD) (h : c.val / 2 = 1) : k0_off1 c = ![0, 0] := by revert c; decide
theorem o2_0 (c : Dev nD) (h : c.val % 2 = 0) : k0_off2 c = ![0, 2944] := by revert c; decide
theorem o2_1 (c : Dev nD) (h : c.val % 2 = 1) : k0_off2 c = ![0, 0] := by revert c; decide
theorem o3_0 (c : Dev nD) (h : c.val % 2 = 0) : k0_off3 c = ![0, 2816] := by revert c; decide
theorem o3_1 (c : Dev nD) (h : c.val % 2 = 1) : k0_off3 c = ![0, 0] := by revert c; decide
theorem o4_0 (c : Dev nD) (h : c.val / 2 = 0) : k0_off4 c = ![3056, 0] := by revert c; decide
theorem o4_1 (c : Dev nD) (h : c.val / 2 = 1) : k0_off4 c = ![0, 0] := by revert c; decide

theorem tile_at {a b : ℕ} (c : Dev nD) (off : Fin 2 → ℕ) (o o' : ℕ) (e : off = ![o, o']) (inb : ∀ i, off i + (⟨2, ![a, b]⟩ : Shape).size i ≤ S3072x3072.size i) (h2) :
    Rep (View.read (Elt F) ((Memref.whole main_arg0).slice (Rect.unit (s := S3072x3072) off (⟨2, ![a, b]⟩ : Shape).size inb) h2).view (m ((c : Thread nD τ).loc main_arg0)))
      (fun p q => xv m c (o + p) (o' + q)) := by
  subst e
  intro p q hp hq
  have h0 : o + a ≤ 3072 := inb 0
  have h1 : o' + b ≤ 3072 := inb 1
  show m ((c : Thread nD τ).loc main_arg0) _ = m ((c : Thread nD τ).loc main_arg0) _
  congr 1
  funext i
  apply Fin.ext
  fin_cases i
  · show o + 1 * p = (o + p) % 3072
    rw [Nat.mod_eq_of_lt (by omega)]; omega
  · show o' + 1 * q = (o' + q) % 3072
    rw [Nat.mod_eq_of_lt (by omega)]; omega

theorem rowOut_0 (c : Dev nD) (h : c.val / 2 = 0) : Rep (rowOut m c) (fun p q => xv m c (3064 + (7 + p)) (0 + (0 + q))) := by
  unfold rowOut k0_pay1
  exact (Rep.pick_t ((tile_at m c (k0_off1 c) 3064 0 (o1_0 c h) (k0_off1_inb c) (fun _ => rfl)).slice 7 0 slices_S8x3072_o7_0_S1x3072) (xw_zero c h)).self _
theorem rowOut_1 (c : Dev nD) (h : c.val / 2 = 1) : Rep (rowOut m c) (fun p q => xv m c (0 + (0 + p)) (0 + (0 + q))) := by
  unfold rowOut k0_pay1
  exact (Rep.pick_f ((tile_at m c (k0_off1 c) 0 0 (o1_1 c h) (k0_off1_inb c) (fun _ => rfl)).slice 0 0 slices_S8x3072_o0_0_S1x3072) (by rw [xw_one c h]; decide)).self _
theorem colOut_0 (c : Dev nD) (h : c.val % 2 = 0) : Rep (colOut m c) (fun p q => xv m c (0 + (0 + p)) (2944 + (127 + q))) := by
  unfold colOut k0_pay2
  exact (Rep.pick_t ((tile_at m c (k0_off2 c) 0 2944 (o2_0 c h) (k0_off2_inb c) (fun _ => rfl)).slice 0 127 slices_S3072x128_o0_127_S3072x1) (yw_zero c h)).self _
theorem colOut_1 (c : Dev nD) (h : c.val % 2 = 1) : Rep (colOut m c) (fun p q => xv m c (0 + (0 + p)) (0 + (0 + q))) := by
  unfold colOut k0_pay2
  exact (Rep.pick_f ((tile_at m c (k0_off2 c) 0 0 (o2_1 c h) (k0_off2_inb c) (fun _ => rfl)).slice 0 0 slices_S3072x128_o0_0_S3072x1) (by rw [yw_one c h]; decide)).self _

/-- The row a device receives: the neighbour's row next to it. -/
theorem rowIn (c : Dev nD) : Rep (k0_pay36 (rowOut m (rx c))) (fun _ q => xb m (rx c) (if c.val / 2 = 0 then 0 else 3071) q) := by
  unfold k0_pay36
  rcases div_cases c with h | h
  · refine (rowOut_1 m (rx c) (by rw [rx_div, h])).trunc.congr fun p q hp hq => ?_
    rw [if_pos h, rnd_xv, show 0 + (0 + p) = 0 by omega, show 0 + (0 + q) = q by omega]
  · refine (rowOut_0 m (rx c) (by rw [rx_div, h])).trunc.congr fun p q hp hq => ?_
    rw [if_neg (by omega), rnd_xv, show 3064 + (7 + p) = 3071 by omega, show 0 + (0 + q) = q by omega]
/-- The column a device receives. -/
theorem colIn (c : Dev nD) : Rep (k0_pay37 (colOut m (cy c))) (fun p _ => xb m (cy c) p (if c.val % 2 = 0 then 0 else 3071)) := by
  unfold k0_pay37
  rcases mod_cases c with h | h
  · refine (colOut_1 m (cy c) (by rw [cy_mod, h])).trunc.congr fun p q hp hq => ?_
    rw [if_pos h, rnd_xv, show 0 + (0 + p) = p by omega, show 0 + (0 + q) = 0 by omega]
  · refine (colOut_0 m (cy c) (by rw [cy_mod, h])).trunc.congr fun p q hp hq => ?_
    rw [if_neg (by omega), rnd_xv, show 0 + (0 + p) = p by omega, show 2944 + (127 + q) = 3071 by omega]

/-- The point at row `i`, column `j`, its neighbours across the seams taken from the devices there. -/
def mid (c : Dev nD) (i j : ℕ) : F .bf16 :=
  sten (xb m c i j)
    (if i = 0 then xb m (rx c) (if c.val / 2 = 0 then 0 else 3071) j else xb m c (i - 1) j)
    (if i = 3071 then xb m (rx c) (if c.val / 2 = 0 then 0 else 3071) j else xb m c (i + 1) j)
    (if j = 0 then xb m (cy c) i (if c.val % 2 = 0 then 0 else 3071) else xb m c i (j - 1))
    (if j = 3071 then xb m (cy c) i (if c.val % 2 = 0 then 0 else 3071) else xb m c i (j + 1))

theorem spec_mid (c : Dev nD) (i j : ℕ) : specN m c i j = if onEdge c i j then xb m c i j else mid m c i j := by
  have hd := div_cases c
  have hm := mod_cases c
  unfold specN
  by_cases he : onEdge c i j
  · rw [if_pos he, if_pos he]
  · rw [if_neg he, if_neg he]
    unfold onEdge at he
    unfold mid
    congr 1
    · by_cases h : i = 0
      · rw [if_pos h, if_pos h, if_neg (by omega)]
      · rw [if_neg h, if_neg h]
    · by_cases h : i = 3071
      · rw [if_pos h, if_pos h, if_pos (by omega)]
      · rw [if_neg h, if_neg h]
    · by_cases h : j = 0
      · rw [if_pos h, if_pos h, if_neg (by omega)]
      · rw [if_neg h, if_neg h]
    · by_cases h : j = 3071
      · rw [if_pos h, if_pos h, if_pos (by omega)]
      · rw [if_neg h, if_neg h]

/-! ## The edge patch -/

section Edge
variable (c : Dev nD) {pt : Vec F S3072x256 .f32}

theorem pay39_0 (h : c.val % 2 = 0) (hp : Rep pt (fun p q => xv m c (0 + p) (2816 + q))) :
    Rep (k0_pay39 (yw c) pt) (fun p q => xb m c p (2944 + q)) := by
  unfold k0_pay39
  refine (Rep.pick_t (hp.trunc.slice 0 128 slices_S3072x256_o0_128_S3072x128) (yw_zero c h)).congr fun p q _ _ => ?_
  rw [rnd_xv, show 0 + (0 + p) = p by omega, show 2816 + (128 + q) = 2944 + q by omega]
theorem pay39_1 (h : c.val % 2 = 1) (hp : Rep pt (fun p q => xv m c (0 + p) (0 + q))) :
    Rep (k0_pay39 (yw c) pt) (fun p q => xb m c p (0 + q)) := by
  unfold k0_pay39
  refine (Rep.pick_f (hp.trunc.slice 0 0 slices_S3072x256_o0_0_S3072x128) (by rw [yw_one c h]; decide)).congr fun p q _ _ => ?_
  rw [rnd_xv, show 0 + (0 + p) = p by omega, show 0 + (0 + q) = 0 + q by omega]
theorem pay40_0 (h : c.val % 2 = 0) : Rep (k0_pay40 (yw c) (rowOut m (rx c))) (fun _ q => xb m (rx c) (if c.val / 2 = 0 then 0 else 3071) (2944 + q)) := by
  unfold k0_pay40
  exact Rep.pick_t ((rowIn m c).slice 0 2944 slices_S1x3072_o0_2944_S1x128) (yw_zero c h)
theorem pay40_1 (h : c.val % 2 = 1) : Rep (k0_pay40 (yw c) (rowOut m (rx c))) (fun _ q => xb m (rx c) (if c.val / 2 = 0 then 0 else 3071) (0 + q)) := by
  unfold k0_pay40
  exact Rep.pick_f ((rowIn m c).slice 0 0 slices_S1x3072_o0_0_S1x128) (by rw [yw_one c h]; decide)

theorem pay43_0 (h : c.val % 2 = 0) (hp : Rep pt (fun p q => xv m c (0 + p) (2816 + q))) :
    Rep (k0_pay43 (yw c) (k0_pay37 (colOut m (cy c))) (k0_pay38 pt) (k0_pay39 (yw c) pt) (k0_pay40 (yw c) (rowOut m (rx c)))
      (k0_pay41 (yw c) (rowOut m (rx c)) pt) (k0_pay42 (yw c) pt)) (fun p q => mid m c p (2944 + q)) := by
  have h39 := pay39_0 m c h hp
  have h40 := pay40_0 m c h
  have h38 : Rep (k0_pay38 pt) _ := hp.trunc
  have hup : Rep (k0_pay41 (yw c) (rowOut m (rx c)) pt) _ := h40.cat0 (h39.slice 0 0 slices_S3072x128_o0_0_S3071x128) concatenates_S1x128_S3071x128_S3072x128_d0 rfl
  have hdn := Rep.cat0 (x := k0_pay42 (yw c) pt) (h39.slice 1 0 slices_S3072x128_o1_0_S3071x128) h40 concatenates_S3071x128_S1x128_S3072x128_d0 rfl
  have hl := h38.slice 0 127 slices_S3072x256_o0_127_S3072x128
  have hr := (h38.slice 0 129 slices_S3072x256_o0_129_S3072x127).cat1 (colIn m c) concatenates_S3072x127_S3072x1_S3072x128_d1 rfl
  unfold k0_pay43
  refine Rep.self (((Rep.const (Scalar.ofBits .bf16 0x3F00#16 : F .bf16)).mul h39).add ((Rep.const (Scalar.ofBits .bf16 0x3E00#16 : F .bf16)).mul
    ((hup.add hdn).add (Rep.add (Rep.pick_t hl (yw_zero c h)) (Rep.pick_t hr (yw_zero c h)))))) _ |>.congr fun p q hp hq => ?_
  unfold mid sten
  simp only [rnd_xv]
  congr 2
  congr 1
  · congr 1
    · split_ifs <;> first | rfl | (exfalso; omega) | (congr 1 <;> omega)
    · split_ifs <;> first | rfl | (exfalso; omega) | (congr 1 <;> omega)
  · congr 1
    · split_ifs <;> first | rfl | (exfalso; omega) | (congr 1 <;> omega)
    · split_ifs <;> first | rfl | (exfalso; omega) | (congr 1 <;> omega)

theorem pay43_1 (h : c.val % 2 = 1) (hp : Rep pt (fun p q => xv m c (0 + p) (0 + q))) :
    Rep (k0_pay43 (yw c) (k0_pay37 (colOut m (cy c))) (k0_pay38 pt) (k0_pay39 (yw c) pt) (k0_pay40 (yw c) (rowOut m (rx c)))
      (k0_pay41 (yw c) (rowOut m (rx c)) pt) (k0_pay42 (yw c) pt)) (fun p q => mid m c p (0 + q)) := by
  have h39 := pay39_1 m c h hp
  have h40 := pay40_1 m c h
  have h38 : Rep (k0_pay38 pt) _ := hp.trunc
  have hn : yw c ≠ 0#32 := by rw [yw_one c h]; decide
  have hup : Rep (k0_pay41 (yw c) (rowOut m (rx c)) pt) _ := h40.cat0 (h39.slice 0 0 slices_S3072x128_o0_0_S3071x128) concatenates_S1x128_S3071x128_S3072x128_d0 rfl
  have hdn := Rep.cat0 (x := k0_pay42 (yw c) pt) (h39.slice 1 0 slices_S3072x128_o1_0_S3071x128) h40 concatenates_S3071x128_S1x128_S3072x128_d0 rfl
  have hl := (colIn m c).cat1 (h38.slice 0 0 slices_S3072x256_o0_0_S3072x127) concatenates_S3072x1_S3072x127_S3072x128_d1 rfl
  have hr := h38.slice 0 1 slices_S3072x256_o0_1_S3072x128
  unfold k0_pay43
  refine Rep.self (((Rep.const (Scalar.ofBits .bf16 0x3F00#16 : F .bf16)).mul h39).add ((Rep.const (Scalar.ofBits .bf16 0x3E00#16 : F .bf16)).mul
    ((hup.add hdn).add (Rep.add (Rep.pick_f hl hn) (Rep.pick_f hr hn))))) _ |>.congr fun p q hp hq => ?_
  unfold mid sten
  simp only [rnd_xv]
  congr 2
  congr 1
  · congr 1
    · split_ifs <;> first | rfl | (exfalso; omega) | (congr 1 <;> omega)
    · split_ifs <;> first | rfl | (exfalso; omega) | (congr 1 <;> omega)
  · congr 1
    · split_ifs <;> first | rfl | (exfalso; omega) | (congr 1 <;> omega)
    · split_ifs <;> first | rfl | (exfalso; omega) | (congr 1 <;> omega)
end Edge

/-! ## The row patch -/

section Row
variable (c : Dev nD) {pt : Vec F S16x3072 .f32}

theorem pay47_0 (h : c.val / 2 = 0) (hp : Rep pt (fun p q => xv m c (3056 + p) (0 + q))) :
    Rep (k0_pay47 (xw c) pt) (fun p q => xb m c (3064 + p) q) := by
  unfold k0_pay47
  refine (Rep.pick_f (hp.trunc.slice 8 0 slices_S16x3072_o8_0_S8x3072) (by rw [xw_zero c h]; decide)).congr fun p q _ _ => ?_
  rw [rnd_xv, show 0 + (0 + q) = q by omega, show 3056 + (8 + p) = 3064 + p by omega]
theorem pay47_1 (h : c.val / 2 = 1) (hp : Rep pt (fun p q => xv m c (0 + p) (0 + q))) :
    Rep (k0_pay47 (xw c) pt) (fun p q => xb m c (0 + p) q) := by
  unfold k0_pay47
  refine (Rep.pick_t (hp.trunc.slice 0 0 slices_S16x3072_o0_0_S8x3072) (xw_one c h)).congr fun p q _ _ => ?_
  rw [rnd_xv, show 0 + (0 + q) = q by omega, show 0 + (0 + p) = 0 + p by omega]

theorem pay49_0 (h : c.val / 2 = 0) (hp : Rep pt (fun p q => xv m c (3056 + p) (0 + q))) :
    ∃ f, Rep (k0_pay49 (xw c) (k0_pay36 (rowOut m (rx c))) (k0_pay37 (colOut m (cy c))) (k0_pay46 pt) (k0_pay47 (xw c) pt)
      (Scalar.cmpi .eq (xw c) 1#32) (k0_pay48 (k0_pay36 (rowOut m (rx c))) pt)) f ∧ ∀ p q, p < 8 → q < 3072 → f p q = mid m c (3064 + p) q := by
  have h47 := pay47_0 m c h hp
  have h46 : Rep (k0_pay46 pt) _ := hp.trunc
  have hn : xw c ≠ 1#32 := by rw [xw_zero c h]; decide
  have hup := h46.slice 7 0 slices_S16x3072_o7_0_S8x3072
  have hdn := (h46.slice 9 0 slices_S16x3072_o9_0_S7x3072).cat0 (rowIn m c) concatenates_S7x3072_S1x3072_S8x3072_d0 rfl
  have hs := Rep.pick_f (u := xw c) (v := 1#32) (x := extractStridedSlice S8x1 ![0, 0] (k0_pay37 (colOut m (cy c))) slices_S3072x1_o0_0_S8x1) ((colIn m c).slice 3064 0 slices_S3072x1_o3064_0_S8x1) hn
  have hl := hs.cat1 (h47.slice 0 0 slices_S8x3072_o0_0_S8x3071) concatenates_S8x1_S8x3071_S8x3072_d1 rfl
  have hr := (h47.slice 0 1 slices_S8x3072_o0_1_S8x3071).cat1 hs concatenates_S8x3071_S8x1_S8x3072_d1 rfl
  unfold k0_pay49
  refine ⟨_, Rep.self (((Rep.const (Scalar.ofBits .bf16 0x3F00#16 : F .bf16)).mul h47).add ((Rep.const (Scalar.ofBits .bf16 0x3E00#16 : F .bf16)).mul
    ((Rep.add (Rep.pick_f hup hn) (Rep.pick_f hdn hn)).add (hl.add hr)))) _, fun p q hp hq => ?_⟩
  unfold mid sten
  simp only [rnd_xv]
  congr 2
  congr 1
  · congr 1
    · split_ifs <;> first | rfl | (exfalso; omega) | (congr 1 <;> omega)
    · split_ifs <;> first | rfl | (exfalso; omega) | (congr 1 <;> omega)
  · congr 1
    · split_ifs <;> first | rfl | (exfalso; omega) | (congr 1 <;> omega)
    · split_ifs <;> first | rfl | (exfalso; omega) | (congr 1 <;> omega)

theorem pay49_1 (h : c.val / 2 = 1) (hp : Rep pt (fun p q => xv m c (0 + p) (0 + q))) :
    ∃ f, Rep (k0_pay49 (xw c) (k0_pay36 (rowOut m (rx c))) (k0_pay37 (colOut m (cy c))) (k0_pay46 pt) (k0_pay47 (xw c) pt)
      (Scalar.cmpi .eq (xw c) 1#32) (k0_pay48 (k0_pay36 (rowOut m (rx c))) pt)) f ∧ ∀ p q, p < 8 → q < 3072 → f p q = mid m c (0 + p) q := by
  have h47 := pay47_1 m c h hp
  have h46 : Rep (k0_pay46 pt) _ := hp.trunc
  have ht := xw_one c h
  have hup : Rep (k0_pay48 (k0_pay36 (rowOut m (rx c))) pt) _ := (rowIn m c).cat0 (h46.slice 0 0 slices_S16x3072_o0_0_S7x3072) concatenates_S1x3072_S7x3072_S8x3072_d0 rfl
  have hdn := h46.slice 1 0 slices_S16x3072_o1_0_S8x3072
  have hs := Rep.pick_t (u := xw c) (v := 1#32) (y := extractStridedSlice S8x1 ![3064, 0] (k0_pay37 (colOut m (cy c))) slices_S3072x1_o3064_0_S8x1) ((colIn m c).slice 0 0 slices_S3072x1_o0_0_S8x1) ht
  have hl := hs.cat1 (h47.slice 0 0 slices_S8x3072_o0_0_S8x3071) concatenates_S8x1_S8x3071_S8x3072_d1 rfl
  have hr := (h47.slice 0 1 slices_S8x3072_o0_1_S8x3071).cat1 hs concatenates_S8x3071_S8x1_S8x3072_d1 rfl
  unfold k0_pay49
  refine ⟨_, Rep.self (((Rep.const (Scalar.ofBits .bf16 0x3F00#16 : F .bf16)).mul h47).add ((Rep.const (Scalar.ofBits .bf16 0x3E00#16 : F .bf16)).mul
    ((Rep.add (Rep.pick_t hup ht) (Rep.pick_t hdn ht)).add (hl.add hr)))) _, fun p q hp hq => ?_⟩
  unfold mid sten
  simp only [rnd_xv]
  congr 2
  congr 1
  · congr 1
    · split_ifs <;> first | rfl | (exfalso; omega) | (congr 1 <;> omega)
    · split_ifs <;> first | rfl | (exfalso; omega) | (congr 1 <;> omega)
  · congr 1
    · split_ifs <;> first | rfl | (exfalso; omega) | (congr 1 <;> omega)
    · split_ifs <;> first | rfl | (exfalso; omega) | (congr 1 <;> omega)
end Row

end Cert.KernelIdeal.Halo
-- ==== Proof.KernelIdeal.Final.lean ====
module

public import proofs.«01_k».proof.Proof.KernelIdeal.Patch

@[expose] public section

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU (Elt F)) ℕ

variable (m : (ℓ : Loc nD τ sig) → Buf (Elt F) ℓ) (ρ : Dev nD → PrngReg)

open Idealize.ShloMosaic.ValueIdx

/-! ## The patch buffers -/

/-- A store of two rows in which one row is new. -/
theorem two_rows (f : (cc0_scratch10 : Ref sig .tc).ty.Contents (Elt F)) (L : List (View.Piece (Elt F) (cc0_scratch10 : Ref sig .tc).ty.shape (cc0_scratch10 : Ref sig .tc).ty.elt))
    (ro ri : ℕ) (hri : ri < 2) (i4 : ∀ a, (![ro, 0] : Fin 2 → ℕ) a + S2x128.size a ≤ S3072x128.size a) (sl : S2x128.Slices ![ri, 0] S1x128)
    (old : FVec F S2x128 .bf16) (ho : old = View.readAt (Elt F) (Memref.whole cc0_scratch10).view (Rect.unit (s := S3072x128) ![ro, 0] S2x128.size i4).toLoadRect ((Memref.whole cc0_scratch10).view.writes (Elt F) f L))
    (u : FVec F S1x128 .bf16) {U : ℕ → ℕ → F .bf16} (hu : Rep u U) (p q : ℕ) (hp : p < 3072) (hq : q < 128) :
    (Memref.whole cc0_scratch10).view.writes (Elt F) f (⟨Rect.unit (s := S3072x128) ![ro, 0] S2x128.size i4, updateSlice (s := S2x128) old u ![ri, 0] sl⟩ :: L) (ix2 ⟨p, hp⟩ ⟨q, hq⟩)
      = if p = ro + ri then U 0 q else (Memref.whole cc0_scratch10).view.writes (Elt F) f L (ix2 ⟨p, hp⟩ ⟨q, hq⟩) := by
  by_cases hin : ro ≤ p ∧ p < ro + 2
  · refine (wcons_in cc0_scratch10 f i4 _ L _ (ix2 ⟨p - ro, by omega⟩ ⟨q, hq⟩) (fun a => ?_)).trans ?_
    · fin_cases a
      · show p = ro + (p - ro); omega
      · exact (Nat.zero_add _).symm
    · unfold updateSlice
      by_cases h0 : p = ro + ri
      · rw [if_pos h0, dif_pos (fun a => by
            fin_cases a
            · exact ⟨show ri ≤ p - ro by omega, show p - ro < ri + 1 by omega⟩
            · exact ⟨Nat.zero_le _, show q < 0 + 128 by omega⟩), ← hu 0 q (by decide) hq]
        refine congrArg u (funext fun a => Fin.ext ?_)
        fin_cases a
        · show p - ro - ri = 0; omega
        · rfl
      · rw [if_neg h0, dif_neg (fun h' => by
            have h1 : ri ≤ p - ro := (h' 0).1
            have h2 : p - ro < ri + 1 := (h' 0).2
            omega), ho, View.readAt_apply, View.read_whole]
        congr 1
        funext a
        apply Fin.ext
        fin_cases a
        · show ro + 1 * (p - ro) = p; omega
        · show 0 + 1 * q = q; omega
  · rw [if_neg (by omega)]
    exact wcons_out cc0_scratch10 f i4 _ L _ 0 (by show p < ro ∨ ro + 2 ≤ p; omega)

section Edge
variable (c : Dev nD) (f : (cc0_scratch10 : Ref sig .tc).ty.Contents (Elt F)) (P0 P1 : Prop) [Decidable P0] [Decidable P1]
  (i0 : ∀ a, (![0, 0] : Fin 2 → ℕ) a + S2x128.size a ≤ S3072x128.size a) (i1 : ∀ a, (![3070, 0] : Fin 2 → ℕ) a + S2x128.size a ≤ S3072x128.size a)
  (iw : ∀ a, (![0, 0] : Fin 2 → ℕ) a + S3072x128.size a ≤ S3072x128.size a)
  (s0 : S2x128.Slices ![0, 0] S1x128) (s1 : S2x128.Slices ![1, 0] S1x128)
  (w z : FVec F S3072x128 .bf16) (old0 old1 : FVec F S2x128 .bf16)

/-- The edge patch's buffer: the computed tile, with the top row stored again under `P0` and the bottom row under `P1`. -/
abbrev edgeIn : (cc0_scratch10 : Ref sig .tc).ty.Contents (Elt F) :=
  if hc : P0 then (Memref.whole cc0_scratch10).view.writes (Elt F) f (⟨Rect.unit (s := S3072x128) ![0, 0] S2x128.size i0, updateSlice (s := S2x128) old0 (k0_pay44 z) ![0, 0] s0⟩ :: [⟨Rect.unit (s := S3072x128) ![0, 0] S3072x128.size iw, w⟩])
  else (Memref.whole cc0_scratch10).view.writes (Elt F) f [⟨Rect.unit (s := S3072x128) ![0, 0] S3072x128.size iw, w⟩]

abbrev edgeBuf : (cc0_scratch10 : Ref sig .tc).ty.Contents (Elt F) :=
  if hc : P1 then (Memref.whole cc0_scratch10).view.writes (Elt F) (edgeIn f P0 i0 iw s0 w z old0) [⟨Rect.unit (s := S3072x128) ![3070, 0] S2x128.size i1, updateSlice (s := S2x128) old1 (k0_pay45 z) ![1, 0] s1⟩]
  else edgeIn f P0 i0 iw s0 w z old0

theorem edge_val {W Z : ℕ → ℕ → F .bf16} (hw : Rep w W) (hz' : Rep z Z)
    (ho0 : old0 = View.readAt (Elt F) (Memref.whole cc0_scratch10).view (Rect.unit (s := S3072x128) ![0, 0] S2x128.size i0).toLoadRect ((Memref.whole cc0_scratch10).view.writes (Elt F) f [⟨Rect.unit (s := S3072x128) ![0, 0] S3072x128.size iw, w⟩]))
    (ho1 : old1 = View.readAt (Elt F) (Memref.whole cc0_scratch10).view (Rect.unit (s := S3072x128) ![3070, 0] S2x128.size i1).toLoadRect (edgeIn f P0 i0 iw s0 w z old0))
    (p q : ℕ) (hp : p < 3072) (hq : q < 128) :
    edgeBuf f P0 P1 i0 i1 iw s0 s1 w z old0 old1 (ix2 ⟨p, hp⟩ ⟨q, hq⟩)
      = if P1 ∧ p = 3071 then Z 3071 q else if P0 ∧ p = 0 then Z 0 q else W p q := by
  have h44 : Rep (k0_pay44 z) (fun p q => Z (0 + p) (0 + q)) := (hz'.slice 0 0 slices_S3072x128_o0_0_S1x128).self _
  have h45 : Rep (k0_pay45 z) (fun p q => Z (3071 + p) (0 + q)) := (hz'.slice 3071 0 slices_S3072x128_o3071_0_S1x128).self _
  have hb : (Memref.whole cc0_scratch10).view.writes (Elt F) f [⟨Rect.unit (s := S3072x128) ![0, 0] S3072x128.size iw, w⟩] (ix2 ⟨p, hp⟩ ⟨q, hq⟩) = W p q := by
    rw [← hw p q hp hq]
    exact congrFun (writes_whole cc0_scratch10 f w hz iw) _
  have hi : edgeIn f P0 i0 iw s0 w z old0 (ix2 ⟨p, hp⟩ ⟨q, hq⟩) = if P0 ∧ p = 0 then Z 0 q else W p q := by
    unfold edgeIn
    by_cases h : P0
    · rw [dif_pos h, two_rows f _ 0 0 (by decide) i0 s0 old0 ho0 _ h44 p q hp hq, hb]
      by_cases h0 : p = 0
      · rw [if_pos h0, if_pos ⟨h, h0⟩]; simp only [Nat.zero_add, Nat.add_zero]
      · rw [if_neg h0, if_neg (fun h' => h0 h'.2)]
    · rw [dif_neg h, if_neg (fun h' => h h'.1), hb]
  unfold edgeBuf
  by_cases h : P1
  · rw [dif_pos h]
    refine (two_rows (edgeIn f P0 i0 iw s0 w z old0) [] 3070 1 (by decide) i1 s1 old1 ho1 _ h45 p q hp hq).trans ?_
    by_cases h0 : p = 3071
    · rw [if_pos h0, if_pos ⟨h, h0⟩]; simp only [Nat.zero_add, Nat.add_zero]
    · rw [if_neg h0, if_neg (fun h' => h0 h'.2), ← hi]; rfl
  · rw [dif_neg h, if_neg (fun h' => h h'.1), hi]
end Edge

section Row
variable (f : (cc0_scratch11 : Ref sig .tc).ty.Contents (Elt F)) (P0 P1 : Prop) [Decidable P0] [Decidable P1]
  (i0 : ∀ a, (![0, 0] : Fin 2 → ℕ) a + S8x1.size a ≤ S8x3072.size a) (i1 : ∀ a, (![0, 3071] : Fin 2 → ℕ) a + S8x1.size a ≤ S8x3072.size a)
  (iw : ∀ a, (![0, 0] : Fin 2 → ℕ) a + S8x3072.size a ≤ S8x3072.size a)
  (w z : FVec F S8x3072 .bf16)

/-- The row patch's buffer: the computed tile, with the left column stored again under `P0` and the right one under `P1`. -/
abbrev rowIn' : (cc0_scratch11 : Ref sig .tc).ty.Contents (Elt F) :=
  if hc : P0 then (Memref.whole cc0_scratch11).view.writes (Elt F) f (⟨Rect.unit (s := S8x3072) ![0, 0] S8x1.size i0, k0_pay50 z⟩ :: [⟨Rect.unit (s := S8x3072) ![0, 0] S8x3072.size iw, w⟩])
  else (Memref.whole cc0_scratch11).view.writes (Elt F) f [⟨Rect.unit (s := S8x3072) ![0, 0] S8x3072.size iw, w⟩]

abbrev rowBuf : (cc0_scratch11 : Ref sig .tc).ty.Contents (Elt F) :=
  if hc : P1 then (Memref.whole cc0_scratch11).view.writes (Elt F) (rowIn' f P0 i0 iw w z) [⟨Rect.unit (s := S8x3072) ![0, 3071] S8x1.size i1, k0_pay51 z⟩]
  else rowIn' f P0 i0 iw w z

theorem rowBuf_val {W Z : ℕ → ℕ → F .bf16} (hw : Rep w W) (hz' : Rep z Z) (p q : ℕ) (hp : p < 8) (hq : q < 3072) :
    rowBuf f P0 P1 i0 i1 iw w z (ix2 ⟨p, hp⟩ ⟨q, hq⟩)
      = if P1 ∧ q = 3071 then Z p 3071 else if P0 ∧ q = 0 then Z p 0 else W p q := by
  have h50 : Rep (k0_pay50 z) (fun p q => Z (0 + p) (0 + q)) := (hz'.slice 0 0 slices_S8x3072_o0_0_S8x1).self _
  have h51 : Rep (k0_pay51 z) (fun p q => Z (0 + p) (3071 + q)) := (hz'.slice 0 3071 slices_S8x3072_o0_3071_S8x1).self _
  have hb : (Memref.whole cc0_scratch11).view.writes (Elt F) f [⟨Rect.unit (s := S8x3072) ![0, 0] S8x3072.size iw, w⟩] (ix2 ⟨p, hp⟩ ⟨q, hq⟩) = W p q := by
    rw [← hw p q hp hq]
    exact congrFun (writes_whole cc0_scratch11 f w hz iw) _
  have hi : rowIn' f P0 i0 iw w z (ix2 ⟨p, hp⟩ ⟨q, hq⟩) = if P0 ∧ q = 0 then Z p 0 else W p q := by
    unfold rowIn'
    by_cases h : P0
    · rw [dif_pos h]
      by_cases h0 : q = 0
      · subst h0
        rw [if_pos ⟨h, rfl⟩]
        refine (wcons_in cc0_scratch11 f i0 _ _ _ (ix2 ⟨p, hp⟩ ⟨0, by decide⟩) (fun a => ?_)).trans ((h50 p 0 hp (by decide)).trans ?_)
        · fin_cases a
          · exact (Nat.zero_add _).symm
          · rfl
        · simp only [Nat.zero_add, Nat.add_zero]
      · rw [if_neg (fun h' => h0 h'.2), ← hb]
        exact wcons_out cc0_scratch11 f i0 _ _ _ 1 (Or.inr (show 0 + 1 ≤ q by omega))
    · rw [dif_neg h, if_neg (fun h' => h h'.1), hb]
  unfold rowBuf
  by_cases h : P1
  · rw [dif_pos h]
    by_cases h0 : q = 3071
    · subst h0
      rw [if_pos ⟨h, rfl⟩]
      refine (wcons_in cc0_scratch11 _ i1 _ _ _ (ix2 ⟨p, hp⟩ ⟨0, by decide⟩) (fun a => ?_)).trans ((h51 p 0 hp (by decide)).trans ?_)
      · fin_cases a
        · exact (Nat.zero_add _).symm
        · rfl
      · simp only [Nat.zero_add, Nat.add_zero]
    · rw [if_neg (fun h' => h0 h'.2), ← hi]
      exact wcons_out cc0_scratch11 _ i1 _ [] _ 1 (Or.inl (show q < 3071 by omega))
  · rw [dif_neg h, if_neg (fun h' => h h'.1), hi]
end Row

/-! ## What the patches put in the output is the specification -/

theorem adm_A (c : Dev nD) (P : (cc0_scratch10 : Ref sig .tc).ty.Contents (Elt F)) (o : ℕ) (ho : k0_off2 c = ![0, o])
    (h : ∀ p q (hp : p < 3072) (hq : q < 128), P (ix2 ⟨p, hp⟩ ⟨q, hq⟩) = specN m c p (o + q)) :
    (wA c).view.Admitted (Elt F) (fun i => some (spec m c i)) ((Memref.whole cc0_scratch10).view.read (Elt F) P) Finset.univ := by
  rw [View.admitted_some_iff]
  intro x _
  have hx0 : (x 0).val < 3072 := (x 0).isLt
  have hx1 : (x 1).val < 128 := (x 1).isLt
  rw [View.read_whole]
  have hx : x = (ix2 ⟨(x 0).val, hx0⟩ ⟨(x 1).val, hx1⟩ : S3072x128.Idx) := eq_ix2 x
  refine (congrArg P hx).trans ((h _ _ hx0 hx1).trans ?_)
  show _ = specN m c (k0_off2 c 0 + 1 * (x 0).val) (k0_off2 c 1 + 1 * (x 1).val)
  have q0 : k0_off2 c 0 = 0 := by rw [ho]; rfl
  have q1 : k0_off2 c 1 = o := by rw [ho]; rfl
  refine congrArg₂ (specN m c) ?_ ?_
  · show (x 0).val = k0_off2 c 0 + 1 * (x 0).val; omega
  · show o + (x 1).val = k0_off2 c 1 + 1 * (x 1).val; omega

theorem adm_B (c : Dev nD) (P : (cc0_scratch11 : Ref sig .tc).ty.Contents (Elt F)) (o : ℕ) (ho : k0_off1 c = ![o, 0])
    (h : ∀ p q (hp : p < 8) (hq : q < 3072), P (ix2 ⟨p, hp⟩ ⟨q, hq⟩) = specN m c (o + p) q) :
    (wB c).view.Admitted (Elt F) (fun i => some (spec m c i)) ((Memref.whole cc0_scratch11).view.read (Elt F) P) Finset.univ := by
  rw [View.admitted_some_iff]
  intro x _
  have hx0 : (x 0).val < 8 := (x 0).isLt
  have hx1 : (x 1).val < 3072 := (x 1).isLt
  rw [View.read_whole]
  have hx : x = (ix2 ⟨(x 0).val, hx0⟩ ⟨(x 1).val, hx1⟩ : S8x3072.Idx) := eq_ix2 x
  refine (congrArg P hx).trans ((h _ _ hx0 hx1).trans ?_)
  show _ = specN m c (k0_off1 c 0 + 1 * (x 0).val) (k0_off1 c 1 + 1 * (x 1).val)
  have q0 : k0_off1 c 0 = o := by rw [ho]; rfl
  have q1 : k0_off1 c 1 = 0 := by rw [ho]; rfl
  refine congrArg₂ (specN m c) ?_ ?_
  · show o + (x 0).val = k0_off1 c 0 + 1 * (x 0).val; omega
  · show (x 1).val = k0_off1 c 1 + 1 * (x 1).val; omega

theorem edge_spec (c : Dev nD) (P0 P1 : Prop) [Decidable P0] [Decidable P1] (h0 : P0 ↔ c.val / 2 = 0) (h1 : P1 ↔ c.val / 2 = 1)
    (o : ℕ) (hA : (c.val % 2 = 0 ∧ o = 2944) ∨ (c.val % 2 = 1 ∧ o = 0)) (p q : ℕ) (hp : p < 3072) (hq : q < 128) :
    (if P1 ∧ p = 3071 then xb m c 3071 (o + q) else if P0 ∧ p = 0 then xb m c 0 (o + q) else mid m c p (o + q)) = specN m c p (o + q) := by
  rw [spec_mid]
  by_cases e1 : P1 ∧ p = 3071
  · rw [if_pos e1, if_pos (show onEdge c p (o + q) from Or.inr (Or.inl ⟨h1.mp e1.1, e1.2⟩)), e1.2]
  · rw [if_neg e1]
    by_cases e0 : P0 ∧ p = 0
    · rw [if_pos e0, if_pos (show onEdge c p (o + q) from Or.inl ⟨h0.mp e0.1, e0.2⟩), e0.2]
    · rw [if_neg e0, if_neg]
      rw [h0] at e0
      rw [h1] at e1
      unfold onEdge
      omega

theorem rowp_spec (c : Dev nD) (P0 P1 : Prop) [Decidable P0] [Decidable P1] (h0 : P0 ↔ c.val % 2 = 0) (h1 : P1 ↔ c.val % 2 = 1)
    (o : ℕ) (hB : (c.val / 2 = 0 ∧ o = 3064) ∨ (c.val / 2 = 1 ∧ o = 0)) (p q : ℕ) (hp : p < 8) (hq : q < 3072) :
    (if P1 ∧ q = 3071 then xb m c (o + p) 3071 else if P0 ∧ q = 0 then xb m c (o + p) 0 else mid m c (o + p) q) = specN m c (o + p) q := by
  rw [spec_mid]
  by_cases e1 : P1 ∧ q = 3071
  · rw [if_pos e1, if_pos (show onEdge c (o + p) q from Or.inr (Or.inr (Or.inr ⟨h1.mp e1.1, e1.2⟩))), e1.2]
  · rw [if_neg e1]
    by_cases e0 : P0 ∧ q = 0
    · rw [if_pos e0, if_pos (show onEdge c (o + p) q from Or.inr (Or.inr (Or.inl ⟨h0.mp e0.1, e0.2⟩))), e0.2]
    · rw [if_neg e0, if_neg]
      rw [h0] at e0
      rw [h1] at e1
      unfold onEdge
      omega

/-- The edge patch as the body leaves it is what the output is to hold in its columns. -/
theorem adm_edge (c : Dev nD) (f : (cc0_scratch10 : Ref sig .tc).ty.Contents (Elt F)) (P0 P1 : Prop) [Decidable P0] [Decidable P1]
    (h0 : P0 ↔ c.val / 2 = 0) (h1 : P1 ↔ c.val / 2 = 1) (i0 i1 iw s0 s1)
    (pt : Vec F S3072x256 .f32) (hpt : pt = View.read (Elt F) ((Memref.whole main_arg0).slice (Rect.unit (s := S3072x3072) (k0_off3 c) S3072x256.size (k0_off3_inb c)) (fun _ => rfl)).view (m ((c : Thread nD τ).loc main_arg0)))
    (w z : FVec F S3072x128 .bf16)
    (ew : w = k0_pay43 (yw c) (k0_pay37 (colOut m (cy c))) (k0_pay38 pt) (k0_pay39 (yw c) pt) (k0_pay40 (yw c) (rowOut m (rx c)))
      (k0_pay41 (yw c) (rowOut m (rx c)) pt) (k0_pay42 (yw c) pt)) (ez : z = k0_pay39 (yw c) pt)
    (old0 old1 : FVec F S2x128 .bf16)
    (ho0 : old0 = View.readAt (Elt F) (Memref.whole cc0_scratch10).view (Rect.unit (s := S3072x128) ![0, 0] S2x128.size i0).toLoadRect ((Memref.whole cc0_scratch10).view.writes (Elt F) f [⟨Rect.unit (s := S3072x128) ![0, 0] S3072x128.size iw, w⟩]))
    (ho1 : old1 = View.readAt (Elt F) (Memref.whole cc0_scratch10).view (Rect.unit (s := S3072x128) ![3070, 0] S2x128.size i1).toLoadRect (edgeIn f P0 i0 iw s0 w z old0)) :
    (wA c).view.Admitted (Elt F) (fun i => some (spec m c i)) ((Memref.whole cc0_scratch10).view.read (Elt F) (edgeBuf f P0 P1 i0 i1 iw s0 s1 w z old0 old1)) Finset.univ := by
  rcases mod_cases c with h | h
  · have hp : Rep pt (fun p q => xv m c (0 + p) (2816 + q)) := by rw [hpt]; exact tile_at m c (k0_off3 c) 0 2816 (o3_0 c h) (k0_off3_inb c) (fun _ => rfl)
    refine adm_A m c _ 2944 (o2_0 c h) (fun p q hp' hq => ?_)
    rw [edge_val f P0 P1 i0 i1 iw s0 s1 w z old0 old1 (by rw [ew]; exact pay43_0 m c h hp) (by rw [ez]; exact pay39_0 m c h hp) ho0 ho1 p q hp' hq]
    exact edge_spec m c P0 P1 h0 h1 2944 (Or.inl ⟨h, rfl⟩) p q hp' hq
  · have hp : Rep pt (fun p q => xv m c (0 + p) (0 + q)) := by rw [hpt]; exact tile_at m c (k0_off3 c) 0 0 (o3_1 c h) (k0_off3_inb c) (fun _ => rfl)
    refine adm_A m c _ 0 (o2_1 c h) (fun p q hp' hq => ?_)
    rw [edge_val f P0 P1 i0 i1 iw s0 s1 w z old0 old1 (by rw [ew]; exact pay43_1 m c h hp) (by rw [ez]; exact pay39_1 m c h hp) ho0 ho1 p q hp' hq]
    exact edge_spec m c P0 P1 h0 h1 0 (Or.inr ⟨h, rfl⟩) p q hp' hq

/-- The row patch likewise. -/
theorem adm_row (c : Dev nD) (f : (cc0_scratch11 : Ref sig .tc).ty.Contents (Elt F)) (P0 P1 : Prop) [Decidable P0] [Decidable P1]
    (h0 : P0 ↔ c.val % 2 = 0) (h1 : P1 ↔ c.val % 2 = 1) (i0 i1 iw)
    (pt : Vec F S16x3072 .f32) (hpt : pt = View.read (Elt F) ((Memref.whole main_arg0).slice (Rect.unit (s := S3072x3072) (k0_off4 c) S16x3072.size (k0_off4_inb c)) (fun _ => rfl)).view (m ((c : Thread nD τ).loc main_arg0)))
    (w z : FVec F S8x3072 .bf16)
    (ew : w = k0_pay49 (xw c) (k0_pay36 (rowOut m (rx c))) (k0_pay37 (colOut m (cy c))) (k0_pay46 pt) (k0_pay47 (xw c) pt)
      (Scalar.cmpi .eq (xw c) 1#32) (k0_pay48 (k0_pay36 (rowOut m (rx c))) pt)) (ez : z = k0_pay47 (xw c) pt) :
    (wB c).view.Admitted (Elt F) (fun i => some (spec m c i)) ((Memref.whole cc0_scratch11).view.read (Elt F) (rowBuf f P0 P1 i0 i1 iw w z)) Finset.univ := by
  rcases div_cases c with h | h
  · have hp : Rep pt (fun p q => xv m c (3056 + p) (0 + q)) := by rw [hpt]; exact tile_at m c (k0_off4 c) 3056 0 (o4_0 c h) (k0_off4_inb c) (fun _ => rfl)
    obtain ⟨g, hg, hge⟩ := pay49_0 m c h hp
    refine adm_B m c _ 3064 (o1_0 c h) (fun p q hp' hq => ?_)
    rw [rowBuf_val f P0 P1 i0 i1 iw w z (by rw [ew]; exact hg.congr hge) (by rw [ez]; exact pay47_0 m c h hp) p q hp' hq]
    exact rowp_spec m c P0 P1 h0 h1 3064 (Or.inl ⟨h, rfl⟩) p q hp' hq
  · have hp : Rep pt (fun p q => xv m c (0 + p) (0 + q)) := by rw [hpt]; exact tile_at m c (k0_off4 c) 0 0 (o4_1 c h) (k0_off4_inb c) (fun _ => rfl)
    obtain ⟨g, hg, hge⟩ := pay49_1 m c h hp
    refine adm_B m c _ 0 (o1_1 c h) (fun p q hp' hq => ?_)
    rw [rowBuf_val f P0 P1 i0 i1 iw w z (by rw [ew]; exact hg.congr hge) (by rw [ez]; exact pay47_1 m c h hp) p q hp' hq]
    exact rowp_spec m c P0 P1 h0 h1 0 (Or.inr ⟨h, rfl⟩) p q hp' hq

/-! ## The chunks' slots, and the output off the patches -/

section Chunks
variable (c : Dev nD)

/-- Row `i`, column `j` lies in neither patch. -/
structure Off (c : Dev nD) (i j : ℕ) : Prop where
  A0 : c.val % 2 = 0 → j < 2944
  A1 : c.val % 2 = 1 → 128 ≤ j
  B0 : c.val / 2 = 0 → i < 3064
  B1 : c.val / 2 = 1 → 8 ≤ i

/-- Slot `s` of the output buffer holds chunk `k` of the result off the patches. -/
def Good (k s : ℕ) (hs : s < 2) (G : (cc0_scratch1 : Ref sig .tc).ty.Contents (Elt F)) : Prop :=
  ∀ r j (hr : r < 512) (hj : j < 3072), Off c (512 * k + r) j → G (ix3 ⟨s, hs⟩ ⟨r, hr⟩ ⟨j, hj⟩) = specN m c (512 * k + r) j

/-- The loaded vector holds the rows chunk `k` needs. -/
def Loaded (k : ℕ) (v : Vec F S1x528x3072 .f32) : Prop :=
  ∀ p q, p < 528 → q < 3072 → 8 ≤ 512 * k + p → 512 * k + p < 3080 → rnd (tv v p q) = xb m c (512 * k + p - 8) q

variable (k s : ℕ) (hk : k < 6) (hs : s < 2) (f : (cc0_scratch1 : Ref sig .tc).ty.Contents (Elt F))
  (i1 : ∀ a, (![s, 0, 0] : Fin 3 → ℕ) a + S1x512x3072.size a ≤ S2x512x3072.size a)
  (i2 : ∀ a, (![s, 0, 0] : Fin 3 → ℕ) a + S1x512x1.size a ≤ S2x512x3072.size a)
  (i3 : ∀ a, (![s, 0, 3071] : Fin 3 → ℕ) a + S1x512x1.size a ≤ S2x512x3072.size a)
  (P0 P1 : Prop) [Decidable P0] [Decidable P1] (v : Vec F S1x528x3072 .f32) (w : FVec F S1x512x3072 .bf16) (a b : FVec F S1x512x1 .bf16)

/-- A slot after the chunk's store and the columns' stores. -/
abbrev slotBuf : (cc0_scratch1 : Ref sig .tc).ty.Contents (Elt F) :=
  if hc : P1 then
    (Memref.whole cc0_scratch1).view.writes (Elt F)
      (if hc : P0 then
        (Memref.whole cc0_scratch1).view.writes (Elt F) f
          (⟨Rect.unit (s := S2x512x3072) ![s, 0, 0] S1x512x1.size i2, a⟩ :: [⟨Rect.unit (s := S2x512x3072) ![s, 0, 0] S1x512x3072.size i1, w⟩])
      else (Memref.whole cc0_scratch1).view.writes (Elt F) f [⟨Rect.unit (s := S2x512x3072) ![s, 0, 0] S1x512x3072.size i1, w⟩])
      [⟨Rect.unit (s := S2x512x3072) ![s, 0, 3071] S1x512x1.size i3, b⟩]
  else
    if hc : P0 then
      (Memref.whole cc0_scratch1).view.writes (Elt F) f
        (⟨Rect.unit (s := S2x512x3072) ![s, 0, 0] S1x512x1.size i2, a⟩ :: [⟨Rect.unit (s := S2x512x3072) ![s, 0, 0] S1x512x3072.size i1, w⟩])
    else (Memref.whole cc0_scratch1).view.writes (Elt F) f [⟨Rect.unit (s := S2x512x3072) ![s, 0, 0] S1x512x3072.size i1, w⟩]

include hk

theorem plain_ok (h0 : P0 ↔ c.val % 2 = 0) (h1 : P1 ↔ c.val % 2 = 1) (hw : w = k0_pay5 v) (ha : a = k0_pay6 v) (hb : b = k0_pay7 v) (hv : Loaded m c k v)
    (hk1 : 1 ≤ k) (hk2 : k ≤ 4) : Good m c k s hs (slotBuf s f i1 i2 i3 P0 P1 w a b) := by
  subst hw ha hb
  intro r j hr hj ho
  refine (slot_val s hs f i1 i2 i3 P0 P1 _ _ _ (pay5_at (tv_at v)) (pay6_at (tv_at v)) (pay7_at (tv_at v)) r j hr hj).trans ?_
  exact chunk_ok m c k hk (tv v) hv r j hr hj P0 P1 h0 h1 ho.A0 ho.A1 ho.B0 ho.B1 (fun _ => by omega) (fun _ => by omega)

theorem rowed_ok (h0 : P0 ↔ c.val % 2 = 0) (h1 : P1 ↔ c.val % 2 = 1) (hw : w = k0_pay5 v) (ha : a = k0_pay6 v) (hb : b = k0_pay7 v) (hv : Loaded m c k v)
    (P : Prop) [Decidable P] (ro ri : ℕ) (hri : ri < 2) (i4 : ∀ a, (![s, ro, 0] : Fin 3 → ℕ) a + S1x2x3072.size a ≤ S2x512x3072.size a)
    (sl : S1x2x3072.Slices ![0, ri, 0] S1x1x3072) (u : FVec F S1x1x3072 .bf16) (hu : Rep3 u (fun p q => rnd (tv v (8 + (ro + ri + p)) (0 + (0 + q)))))
    (old : FVec F S1x2x3072 .bf16) (ho : old = View.readAt (Elt F) (Memref.whole cc0_scratch1).view (Rect.unit (s := S2x512x3072) ![s, ro, 0] S1x2x3072.size i4).toLoadRect (slotBuf s f i1 i2 i3 P0 P1 w a b))
    (hP : (k = 0 ∧ ro + ri = 0 ∧ (P ↔ c.val / 2 = 0)) ∨ (k = 5 ∧ ro + ri = 511 ∧ (P ↔ c.val / 2 = 1))) :
    Good m c k s hs (if hc : P then
        (Memref.whole cc0_scratch1).view.writes (Elt F) (slotBuf s f i1 i2 i3 P0 P1 w a b)
          [⟨Rect.unit (s := S2x512x3072) ![s, ro, 0] S1x2x3072.size i4, updateSlice (s := S1x2x3072) old u ![0, ri, 0] sl⟩]
      else slotBuf s f i1 i2 i3 P0 P1 w a b) := by
  subst ho
  subst hw ha hb
  intro r j hr hj ho
  rw [row_val s hs (slotBuf s f i1 i2 i3 P0 P1 _ _ _) P ro ri hri i4 sl u hu r j hr hj]
  have hd := div_cases c
  by_cases e : P ∧ r = ro + ri
  · rw [if_pos e]
    obtain ⟨e, er⟩ := e
    have he : onEdge c (512 * k + r) j := by
      unfold onEdge
      rcases hP with ⟨h, h', h''⟩ | ⟨h, h', h''⟩
      · have := h''.mp e; omega
      · have := h''.mp e; omega
    rw [← edge_ok m c k hk (tv v) hv r j hr hj he, er]
    simp only [Nat.zero_add, Nat.add_zero]
  · rw [if_neg e]
    refine (slot_val s hs f i1 i2 i3 P0 P1 _ _ _ (pay5_at (tv_at v)) (pay6_at (tv_at v)) (pay7_at (tv_at v)) r j hr hj).trans ?_
    refine chunk_ok m c k hk (tv v) hv r j hr hj P0 P1 h0 h1 ho.A0 ho.A1 ho.B0 ho.B1 (fun h hr0 => ?_) (fun h hr0 => ?_)
    · rcases hP with ⟨h1', h', h''⟩ | ⟨h1', h', h''⟩
      · exact e ⟨h''.mpr h, by omega⟩
      · omega
    · rcases hP with ⟨h1', h', h''⟩ | ⟨h1', h', h''⟩
      · omega
      · exact e ⟨h''.mpr h, by omega⟩
end Chunks

theorem slot_read (s : ℕ) (hs : s < 2) (G : (cc0_scratch1 : Ref sig .tc).ty.Contents (Elt F))
    (i1 : ∀ a, (![s, 0, 0] : Fin 3 → ℕ) a + S1x512x3072.size a ≤ S2x512x3072.size a) (h1) (hq : S1x512x3072.Squeezes S512x3072)
    (r j : ℕ) (hr : r < 512) (hj : j < 3072) :
    View.read (Elt F) (((Memref.whole cc0_scratch1).slice (Rect.unit (s := S2x512x3072) ![s, 0, 0] S1x512x3072.size i1) h1).squeeze S512x3072 hq).view G
      (ix2 ⟨r, hr⟩ ⟨j, hj⟩ : S512x3072.Idx) = G (ix3 ⟨s, hs⟩ ⟨r, hr⟩ ⟨j, hj⟩) := by
  have he : (((Memref.whole cc0_scratch1).slice (Rect.unit (s := S2x512x3072) ![s, 0, 0] S1x512x3072.size i1) h1).squeeze S512x3072 hq).view.emb
      (ix2 ⟨r, hr⟩ ⟨j, hj⟩ : S512x3072.Idx) = (ix3 ⟨s, hs⟩ ⟨r, hr⟩ ⟨j, hj⟩ : S2x512x3072.Idx) := by
    show (Rect.unit (s := S2x512x3072) ![s, 0, 0] S1x512x3072.size i1).emb (Shape.reshapeEquiv hq.numel_eq _) = _
    rw [reshapeEquiv_ix2_1ab]
    funext a
    apply Fin.ext
    fin_cases a
    · show s + 1 * 0 = s; omega
    · show 0 + 1 * r = r; omega
    · show 0 + 1 * j = j; omega
  exact congrArg G he

theorem out_emb (lo : ℕ) (io : ∀ a, (![lo, 0] : Fin 2 → ℕ) a + S512x3072.size a ≤ S3072x3072.size a) (h2) (i : S3072x3072.Idx)
    (r j : ℕ) (hr : r < 512) (hj : j < 3072) (e0 : lo + r = (i 0).val) (e1 : j = (i 1).val) :
    (((Memref.whole main_v1).slice (Rect.unit (s := S3072x3072) ![lo, 0] S512x3072.size io) h2).view.slice (Rect.whole (Rect.unit (s := S3072x3072) ![lo, 0] S512x3072.size io).shape)).emb
      (ix2 ⟨r, hr⟩ ⟨j, hj⟩ : S512x3072.Idx) = i := by
  funext a
  apply Fin.ext
  fin_cases a
  · show lo + 1 * (0 + 1 * r) = (i 0).val; omega
  · show 0 + 1 * (0 + 1 * j) = (i 1).val; omega

/-- The output's rows after a chunk's transfer. -/
theorem out_ok (c : Dev nD) (k s lo : ℕ) (hk : k < 6) (hs : s < 2) (hlo : lo = 512 * k) (G : (cc0_scratch1 : Ref sig .tc).ty.Contents (Elt F)) (hG : Good m c k s hs G)
    (i1 : ∀ a, (![s, 0, 0] : Fin 3 → ℕ) a + S1x512x3072.size a ≤ S2x512x3072.size a) (h1) (hq : S1x512x3072.Squeezes S512x3072)
    (io : ∀ a, (![lo, 0] : Fin 2 → ℕ) a + S512x3072.size a ≤ S3072x3072.size a) (h2) (o : (main_v1 : Ref sig .tc).ty.Contents (Elt F))
    (i : S3072x3072.Idx) (hi : i ∈ (rowsO lo (lo + 512) : Finset S3072x3072.Idx)) (hoff : Off c (i 0).val (i 1).val) :
    (((Memref.whole main_v1).slice (Rect.unit (s := S3072x3072) ![lo, 0] S512x3072.size io) h2).view.writes (Elt F) o
      [⟨Rect.whole (Rect.unit (s := S3072x3072) ![lo, 0] S512x3072.size io).shape,
        ReadAs.same.apply (View.read (Elt F) (((Memref.whole cc0_scratch1).slice (Rect.unit (s := S2x512x3072) ![s, 0, 0] S1x512x3072.size i1) h1).squeeze S512x3072 hq).view G)⟩] :
        (main_v1 : Ref sig .tc).ty.Contents (Elt F)) i
      = spec m c i := by
  subst hlo
  have hr := mem_rowsO.mp hi
  have hj : (i 1).val < 3072 := (i 1).isLt
  have hg := hG ((i 0).val - 512 * k) (i 1).val (by omega) hj (by rw [show 512 * k + ((i 0).val - 512 * k) = (i 0).val by omega]; exact hoff)
  rw [show 512 * k + ((i 0).val - 512 * k) = (i 0).val by omega] at hg
  refine Eq.trans ?_ hg
  rw [View.writes_singleton]
  have he := out_emb (512 * k) io h2 i ((i 0).val - 512 * k) (i 1).val (by omega) hj (by omega) rfl
  have hw := View.write_emb_of_mem (Val := Elt F) (v := (((Memref.whole main_v1).slice (Rect.unit (s := S3072x3072) ![512 * k, 0] S512x3072.size io) h2).view.slice (Rect.whole (Rect.unit (s := S3072x3072) ![512 * k, 0] S512x3072.size io).shape))) o
    (View.read (Elt F) (((Memref.whole cc0_scratch1).slice (Rect.unit (s := S2x512x3072) ![s, 0, 0] S1x512x3072.size i1) h1).squeeze S512x3072 hq).view G)
    (M := Finset.univ) (x := (ix2 ⟨(i 0).val - 512 * k, by omega⟩ ⟨(i 1).val, hj⟩ : S512x3072.Idx)) (Finset.mem_univ _)
  rw [he] at hw
  exact hw.trans (slot_read s hs G i1 h1 hq _ _ _ _)

theorem off_of (c : Dev nD) (i : S3072x3072.Idx) (hA : i ∉ ((wA c).view.set : Finset S3072x3072.Idx)) (hB : i ∉ ((wB c).view.set : Finset S3072x3072.Idx)) :
    Off c (i 0).val (i 1).val := by
  have hi0 : (i 0).val < 3072 := (i 0).isLt
  have hi1 : (i 1).val < 3072 := (i 1).isLt
  have eA : ((wA c).view.set : Finset S3072x3072.Idx) = (Rect.unit (s := S3072x3072) (k0_off2 c) S3072x128.size (k0_off2_inb c)).set := View.set_slice_whole main_v1 _
  have eB : ((wB c).view.set : Finset S3072x3072.Idx) = (Rect.unit (s := S3072x3072) (k0_off1 c) S8x3072.size (k0_off1_inb c)).set := View.set_slice_whole main_v1 _
  rw [eA, Rect.mem_set_unit] at hA
  rw [eB, Rect.mem_set_unit] at hB
  refine ⟨fun h => ?_, fun h => ?_, fun h => ?_, fun h => ?_⟩
  · by_contra hc
    refine hA (fun a => ?_)
    rw [o2_0 c h]
    fin_cases a
    · exact ⟨Nat.zero_le _, show (i 0).val < 0 + 3072 by omega⟩
    · exact ⟨show 2944 ≤ (i 1).val by omega, show (i 1).val < 2944 + 128 by omega⟩
  · by_contra hc
    refine hA (fun a => ?_)
    rw [o2_1 c h]
    fin_cases a
    · exact ⟨Nat.zero_le _, show (i 0).val < 0 + 3072 by omega⟩
    · exact ⟨Nat.zero_le _, show (i 1).val < 0 + 128 by omega⟩
  · by_contra hc
    refine hB (fun a => ?_)
    rw [o1_0 c h]
    fin_cases a
    · exact ⟨show 3064 ≤ (i 0).val by omega, show (i 0).val < 3064 + 8 by omega⟩
    · exact ⟨Nat.zero_le _, show (i 1).val < 0 + 3072 by omega⟩
  · by_contra hc
    refine hB (fun a => ?_)
    rw [o1_1 c h]
    fin_cases a
    · exact ⟨Nat.zero_le _, show (i 0).val < 0 + 8 by omega⟩
    · exact ⟨Nat.zero_le _, show (i 1).val < 0 + 3072 by omega⟩

theorem fin_eq (c : Dev nD) (o0 o1 o2 o3 o4 o5 : Buf (Elt F) ((c : Thread nD τ).loc main_v1))
    (h0 : ∀ i : S3072x3072.Idx, i ∈ (rowsO 0 512 : Finset S3072x3072.Idx) → Off c (i 0).val (i 1).val → o0 i = spec m c i)
    (h1 : ∀ i : S3072x3072.Idx, i ∈ (rowsO 512 1024 : Finset S3072x3072.Idx) → Off c (i 0).val (i 1).val → o1 i = spec m c i)
    (h2 : ∀ i : S3072x3072.Idx, i ∈ (rowsO 1024 1536 : Finset S3072x3072.Idx) → Off c (i 0).val (i 1).val → o2 i = spec m c i)
    (h3 : ∀ i : S3072x3072.Idx, i ∈ (rowsO 1536 2048 : Finset S3072x3072.Idx) → Off c (i 0).val (i 1).val → o3 i = spec m c i)
    (h4 : ∀ i : S3072x3072.Idx, i ∈ (rowsO 2048 2560 : Finset S3072x3072.Idx) → Off c (i 0).val (i 1).val → o4 i = spec m c i)
    (h5 : ∀ i : S3072x3072.Idx, i ∈ (rowsO 2560 3072 : Finset S3072x3072.Idx) → Off c (i 0).val (i 1).val → o5 i = spec m c i) :
    ((∅ ∪ (wA c).view.set) ∪ (∅ ∪ (wB c).view.set)).piecewise (spec m c) (joinO c o0 o1 o2 o3 o4 o5) = spec m c := by
  refine funext (fun (i : S3072x3072.Idx) => ?_)
  have hi0 : (i 0).val < 3072 := (i 0).isLt
  by_cases hm : i ∈ ((∅ ∪ (wA c).view.set) ∪ (∅ ∪ (wB c).view.set))
  · rw [Finset.piecewise_eq_of_mem _ _ _ hm]
  · rw [Finset.piecewise_eq_of_notMem _ _ _ hm]
    have hA : i ∉ ((wA c).view.set : Finset S3072x3072.Idx) := fun h => hm (Finset.mem_union_left _ (Finset.mem_union_right _ h))
    have hB : i ∉ ((wB c).view.set : Finset S3072x3072.Idx) := fun h => hm (Finset.mem_union_right _ (Finset.mem_union_right _ h))
    have ho := off_of c i hA hB
    unfold joinO
    by_cases e0 : i ∈ rowsO 0 512
    · rw [if_pos e0]; exact h0 i e0 ho
    rw [if_neg e0]
    by_cases e1 : i ∈ rowsO 512 1024
    · rw [if_pos e1]; exact h1 i e1 ho
    rw [if_neg e1]
    by_cases e2 : i ∈ rowsO 1024 1536
    · rw [if_pos e2]; exact h2 i e2 ho
    rw [if_neg e2]
    by_cases e3 : i ∈ rowsO 1536 2048
    · rw [if_pos e3]; exact h3 i e3 ho
    rw [if_neg e3]
    by_cases e4 : i ∈ rowsO 2048 2560
    · rw [if_pos e4]; exact h4 i e4 ho
    rw [if_neg e4]
    refine h5 i (mem_rowsO.mpr ?_) ho
    have n0 : ¬ (0 ≤ (i 0).val ∧ (i 0).val < 512) := fun h => e0 (mem_rowsO.mpr h)
    have n1 : ¬ (512 ≤ (i 0).val ∧ (i 0).val < 1024) := fun h => e1 (mem_rowsO.mpr h)
    have n2 : ¬ (1024 ≤ (i 0).val ∧ (i 0).val < 1536) := fun h => e2 (mem_rowsO.mpr h)
    have n3 : ¬ (1536 ≤ (i 0).val ∧ (i 0).val < 2048) := fun h => e3 (mem_rowsO.mpr h)
    have n4 : ¬ (2048 ≤ (i 0).val ∧ (i 0).val < 2560) := fun h => e4 (mem_rowsO.mpr h)
    omega

end Cert.KernelIdeal.Halo
-- ==== Proof.KernelIdeal.Body.lean ====
module

public import proofs.«01_k».proof.Proof.KernelIdeal.Final

@[expose] public section

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU (Elt F)) ℕ

variable (m : (ℓ : Loc nD τ sig) → Buf (Elt F) ℓ) (ρ : Dev nD → PrngReg)

/-- What the body leaves: its dues paid, its five cells closed, the six argument shares it read by, the result, its
scratch at whatever it holds, and its eight local semaphores at zero. -/
def bodyEnd (c : Dev nD) : sProp 𝕄 :=
  iprop((∃ W : Waits sig Unit, owes (c : Thread nD τ) 0 W) ∗ semVal (barCell c) 0 ∗ semVal (sndR c) 0 ∗ semVal (sndC c) 0
    ∗ semVal (rcvR c) 0 ∗ semVal (rcvC c) 0
    ∗ pts c main_arg0 (tok 0) (xin m c) ∗ pts c main_arg0 (tok 1) (xin m c) ∗ pts c main_arg0 (tok 4) (xin m c) ∗ pts c main_arg0 (tok 5) (xin m c) ∗ pts c main_arg0 (tok 6) (xin m c) ∗ pts c main_arg0 (tok 7) (xin m c)
    ∗ pts c main_v1 fullShare (spec m c)
    ∗ (∃ f, pts c cc0_scratch0 fullShare f) ∗ (∃ f, pts c cc0_scratch1 fullShare f) ∗ (∃ f, pts c cc0_scratch2 fullShare f) ∗ (∃ f, pts c cc0_scratch3 fullShare f)
    ∗ (∃ f, pts c cc0_scratch4 fullShare f) ∗ (∃ f, pts c cc0_scratch5 fullShare f) ∗ (∃ f, pts c cc0_scratch6 fullShare f) ∗ (∃ f, pts c cc0_scratch7 fullShare f)
    ∗ (∃ f, pts c cc0_scratch8 fullShare f) ∗ (∃ f, pts c cc0_scratch9 fullShare f) ∗ (∃ f, pts c cc0_scratch10 fullShare f) ∗ (∃ f, pts c cc0_scratch11 fullShare f)
    ∗ semVal ((c : Thread nD τ), .dma (dS 0)) 0 ∗ semVal ((c : Thread nD τ), .dma (dS 1)) 0 ∗ semVal ((c : Thread nD τ), .dma (dS 2)) 0 ∗ semVal ((c : Thread nD τ), .dma (dS 3)) 0
    ∗ semVal ((c : Thread nD τ), .dma (dS 4)) 0 ∗ semVal ((c : Thread nD τ), .dma (dS 5)) 0 ∗ semVal ((c : Thread nD τ), .dma (dS 6)) 0 ∗ semVal ((c : Thread nD τ), .dma (dS 7)) 0)

theorem cov_top (f : (cc0_scratch10 : Ref sig .tc).ty.Contents (Elt F)) (w : FVec F S3072x128 .bf16)
    (iw : ∀ a, (![0, 0] : Fin 2 → ℕ) a + S3072x128.size a ≤ S3072x128.size a) (B : LoadRect S3072x128) :
    (Memref.whole cc0_scratch10).view.readCov [⟨Rect.unit (s := S3072x128) ![0, 0] S3072x128.size iw, w⟩] B
      = View.readAt (Elt F) (Memref.whole cc0_scratch10).view B ((Memref.whole cc0_scratch10).view.writes (Elt F) f [⟨Rect.unit (s := S3072x128) ![0, 0] S3072x128.size iw, w⟩]) := by
  unfold View.readCov
  exact congrArg (View.readAt (Elt F) (Memref.whole cc0_scratch10).view B) ((writes_whole cc0_scratch10 _ w hz iw).trans (writes_whole cc0_scratch10 f w hz iw).symm)

variable (K : Dev nD × Fin 5 → ℕ)

omit [FloatOps F] in
/-- What is held, kept aside. -/
theorem aside (P : sProp 𝕄) : P ⊢ iprop(emp -∗ P) := by
  iintro H E
  iexact H

theorem credit_stage : (csM : Memref sig .tc .vmem S3072x1 .f32).view.dmaCredit = NC := rfl
/-- The wait for the edge column's departure. -/
theorem wp_wait_sndC (c : Dev nD) {sS : DmaSem sig} (hS : sS = dS 9) {hsrc : (chM : Memref sig .tc .vmem S3072x1 .f32).view.WordExact} {hdst : (csM : Memref sig .tc .vmem S3072x1 .f32).view.WordExact}
    {α : Type} {Q : α → sProp 𝕄} {k : PUnit → Prog (TpuEff nD τ sig (Elt F) Λ₀ .tc) α} (W : Waits sig Unit) :
    iprop(cellInv ER (haloRd m) (K (c, 2)) (sndC c) ∗ cred (tallyAt (sndC c) () NC) ∗ owes (c : Thread nD τ) 0 W ∗ atPos ER (sndC c) 0 ∅ 0)
      ⊢ iprop(((owes (c : Thread nD τ) 0 (insert (.dma (dS 9), ()) W) ∗ atPos ER (sndC c) (0 + 1) ∅ 0 ∗ reached ER (sndC c) (0 + 1)
              ∗ bigSep ((haloRd m).duties (sndC c) 0) (fun d => (haloRd m).payload (sndC c) 0 d))
            -∗ wp frame (wpE (defs₀ (F := F)) Variants.none (c : Thread nD τ) none) Set.univ (k ⟨⟩) Q)
          -∗ wp frame (wpE (defs₀ (F := F)) Variants.none (c : Thread nD τ) none) Set.univ
              (.op (.waitDma2 sS chM csM hsrc hdst) k) Q) := by
  subst hS
  iintro ⟨#HI, Hcr, HO, Hat⟩ HK
  ihave Hcr := (Entails.of_eq (congrArg (fun n : ℕ => (cred (tallyAt (sndC c) () n) : sProp 𝕄)) credit_stage.symm)) $$ Hcr
  iapply (Rounds.wp_wait_rest_token Variants.none ER (haloRd m) (c : Thread nD τ) none (κ := K (c, 2))
      (wpE_waitDma2_eq Variants.none (c : Thread nD τ) none Set.univ) (Set.mem_univ _) () (O := 0) (W := W) (R := 0) (m := 0) (T := ∅)
      ((Nat.zero_add _).trans (credit_stage.trans (expect_sndC m c).symm))) $$ [Hcr HO Hat]
  · isplitr; · iexact HI
    isplitl [Hcr]; · iexact Hcr
    isplitl [HO]; · iexact HO
    isplitr; · rw [MayWait_zero]; iempintro
    iexact Hat
  iintro ⟨HO, Hat, Hr, Hp⟩
  ihave Hp := (Entails.of_eq (by rw [Finset.sdiff_empty])) $$ Hp
  iapply HK
  isplitl [HO]; · iexact HO
  isplitl [Hat]; · iexact Hat
  isplitl [Hr]; · iexact Hr
  iexact Hp

/-- The wait for the neighbour's edge column. -/
theorem wp_wait_rcvC (c : Dev nD) {sS : DmaSem sig} (hS : sS = dS 11) {hsrc : (csM : Memref sig .tc .vmem S3072x1 .f32).view.WordExact} {hdst : (chM : Memref sig .tc .vmem S3072x1 .f32).view.WordExact}
    {α : Type} {Q : α → sProp 𝕄} {k : PUnit → Prog (TpuEff nD τ sig (Elt F) Λ₀ .tc) α} (W : Waits sig Unit) :
    iprop(cellInv ER (haloRd m) (K (c, 4)) (rcvC c) ∗ cred (tallyAt (rcvC c) () NC) ∗ owes (c : Thread nD τ) 0 W ∗ atPos ER (rcvC c) 0 ∅ 0)
      ⊢ iprop(((owes (c : Thread nD τ) 0 (insert (.dma (dS 11), ()) W) ∗ atPos ER (rcvC c) (0 + 1) ∅ 0 ∗ reached ER (rcvC c) (0 + 1)
              ∗ bigSep ((haloRd m).duties (rcvC c) 0) (fun d => (haloRd m).payload (rcvC c) 0 d))
            -∗ wp frame (wpE (defs₀ (F := F)) Variants.none (c : Thread nD τ) none) Set.univ (k ⟨⟩) Q)
          -∗ wp frame (wpE (defs₀ (F := F)) Variants.none (c : Thread nD τ) none) Set.univ
              (.op (.waitDma2 sS csM chM hsrc hdst) k) Q) := by
  subst hS
  iintro ⟨#HI, Hcr, HO, Hat⟩ HK
  iapply (Rounds.wp_wait_rest_token Variants.none ER (haloRd m) (c : Thread nD τ) none (κ := K (c, 4))
      (wpE_waitDma2_eq Variants.none (c : Thread nD τ) none Set.univ) (Set.mem_univ _) () (O := 0) (W := W) (R := 0) (m := 0) (T := ∅)
      ((Nat.zero_add _).trans (expect_rcvC m c).symm)) $$ [Hcr HO Hat]
  · isplitr; · iexact HI
    isplitl [Hcr]; · iexact Hcr
    isplitl [HO]; · iexact HO
    isplitr; · rw [MayWait_zero]; iempintro
    iexact Hat
  iintro ⟨HO, Hat, Hr, Hp⟩
  ihave Hp := (Entails.of_eq (by rw [Finset.sdiff_empty])) $$ Hp
  iapply HK
  isplitl [HO]; · iexact HO
  isplitl [Hat]; · iexact Hat
  isplitl [Hr]; · iexact Hr
  iexact Hp

set_option maxHeartbeats 4000000 in
theorem seg1 (c : Dev nD) (ιw : ℕ) (W : Waits sig Unit) (o : Buf (Elt F) ((c : Thread nD τ).loc main_v1))
   (f0 : Buf (Elt F) ((c : Thread nD τ).loc cc0_scratch0)) (f1 : Buf (Elt F) ((c : Thread nD τ).loc cc0_scratch1))
   (f2 : Buf (Elt F) ((c : Thread nD τ).loc cc0_scratch2)) (f3 : Buf (Elt F) ((c : Thread nD τ).loc cc0_scratch3))
   (f4 : Buf (Elt F) ((c : Thread nD τ).loc cc0_scratch4)) (f5 : Buf (Elt F) ((c : Thread nD τ).loc cc0_scratch5))
   (f6 : Buf (Elt F) ((c : Thread nD τ).loc cc0_scratch6)) (f7 : Buf (Elt F) ((c : Thread nD τ).loc cc0_scratch7))
   (f8 : Buf (Elt F) ((c : Thread nD τ).loc cc0_scratch8)) (f9 : Buf (Elt F) ((c : Thread nD τ).loc cc0_scratch9))
   (f10 : Buf (Elt F) ((c : Thread nD τ).loc cc0_scratch10)) (f11 : Buf (Elt F) ((c : Thread nD τ).loc cc0_scratch11))
   (Kt : PUnit → sProp 𝕄) :
   iprop((cellInv ER (haloRd m) (K (c, 1)) (sndR c) ∗ cellInv ER (haloRd m) (K (rx c, 3)) (rcvR (rx c)) ∗ cellInv ER (haloRd m) (K (c, 2)) (sndC c) ∗ cellInv ER (haloRd m) (K (cy c, 4)) (rcvC (cy c))
        ∗ dutyTok ER (sndR c) 0 false ∗ dutyTok ER (rcvR (rx c)) 0 false ∗ dutyTok ER (sndC c) 0 false ∗ dutyTok ER (rcvC (cy c)) 0 false
        ∗ reached ER (sndR c) 0 ∗ reached ER (sndC c) 0) ∗ cellInv ER (haloRd m) (K (c, 0)) (barCell c) ∗ cellInv ER (haloRd m) (K (rx c, 0)) (barCell (rx c)) ∗ cellInv ER (haloRd m) (K (cy c, 0)) (barCell (cy c))
     ∗ atPos ER (barCell c) 0 ∅ 0 ∗ reached ER (barCell (rx c)) 0 ∗ reached ER (barCell (cy c)) 0 ∗ reached ER (rcvR c) 0 ∗ reached ER (rcvC c) 0
     ∗ dutyTok ER (barCell (rx c)) 0 true ∗ dutyTok ER (barCell (cy c)) 0 false
     ∗ cred (tallyAt (barCell c) () 2) ∗ levAts L lv
     ∗ owes (c : Thread nD τ) (tallyAt (rcvC (cy c)) () NC + tallyAt (rcvR (rx c)) () NR + tallyAt (barCell (cy c)) () 1 + tallyAt (barCell (rx c)) () 1) W
     ∗ pts c main_arg0 (tok 0) (xin m c) ∗ pts c main_arg0 (tok 1) (xin m c) ∗ pts c main_arg0 (tok 4) (xin m c) ∗ pts c main_arg0 (tok 5) (xin m c) ∗ pts c main_arg0 (tok 6) (xin m c) ∗ pts c main_arg0 (tok 7) (xin m c)
     ∗ ptsM c oS0 o ∗ ptsM c oS1 o ∗ ptsM c oS2 o ∗ ptsM c oS3 o ∗ ptsM c oS4 o ∗ ptsM c oS5 o
     ∗ ptsOn c cc0_scratch0 xs0 f0 ∗ ptsOn c cc0_scratch0 xs1 f0 ∗ ptsOn c cc0_scratch1 os0 f1 ∗ ptsOn c cc0_scratch1 os1 f1 ∗ pts c cc0_scratch2 fullShare f2 ∗ pts c cc0_scratch3 fullShare f3
     ∗ pts c cc0_scratch4 fullShare f4 ∗ pts c cc0_scratch5 fullShare f5 ∗ pts c cc0_scratch6 fullShare f6 ∗ pts c cc0_scratch7 fullShare f7
     ∗ pts c cc0_scratch8 fullShare f8 ∗ pts c cc0_scratch9 fullShare f9 ∗ pts c cc0_scratch10 fullShare f10 ∗ pts c cc0_scratch11 fullShare f11
     ∗ semVal ((c : Thread nD τ), .dma (dS 0)) 0 ∗ semVal ((c : Thread nD τ), .dma (dS 1)) 0 ∗ semVal ((c : Thread nD τ), .dma (dS 2)) 0 ∗ semVal ((c : Thread nD τ), .dma (dS 3)) 0
     ∗ semVal ((c : Thread nD τ), .dma (dS 4)) 0 ∗ semVal ((c : Thread nD τ), .dma (dS 5)) 0 ∗ semVal ((c : Thread nD τ), .dma (dS 6)) 0 ∗ semVal ((c : Thread nD τ), .dma (dS 7)) 0
     ∗ cellInv ER (haloRd m) (K (c, 3)) (rcvR c) ∗ cellInv ER (haloRd m) (K (c, 4)) (rcvC c)
     ∗ atPos ER (sndR c) 0 ∅ 0 ∗ atPos ER (sndC c) 0 ∅ 0 ∗ atPos ER (rcvR c) 0 ∅ 0 ∗ atPos ER (rcvC c) 0 ∅ 0
     ∗ cred (tallyAt (rcvR c) () NR) ∗ cred (tallyAt (rcvC c) () NC) ∗ wmInv EW ιw ∗ (bodyEnd m c -∗ Kt ⟨⟩)
    )
    ⊢ wp frame (wpE (defs₀ (F := F)) Variants.none c none) Set.univ (bodyAt0 t0_0) Kt := by
  iintro ⟨⟨#HIsr, #HIrr, #HIsc, #HIrc, HtsR, HtrR, HtsC, HtrC, #Hrsr, #Hrsc⟩, #HIb, #HIbr, #HIbc, Hat, #Hrbr, #Hrbc, #Hrr, #Hrc, Htr, Htc, Hcb, #Hlev, HO, Hx0, Hx1, Hx4, Hx5, Hx6, Hx7, Ho0, Ho1, Ho2, Ho3, Ho4, Ho5, H0a, H0b, H1a, H1b, H2, H3, H4, H5, H6, H7, H8, H9, H10, H11, Hs0, Hs1, Hs2, Hs3, Hs4, Hs5, Hs6, Hs7, #HIvr, #HIvc, HasR, HasC, HarR, HarC, HcrR, HcrC, #Hwm, HK⟩
  have hd1 := dev1_eq c
  have hd2 := dev2_eq c
  have hmb : (levAts L lv : sProp 𝕄) ⊢ MayWait (c : Thread nD τ) (.reg barS) () (tallyAt (rcvC (cy c)) () NC + tallyAt (rcvR (rx c)) () NR) := mayWait_bar c
  have hm4 : (levAts L lv : sProp 𝕄) ⊢ MayWait (c : Thread nD τ) (.dma (dS 4)) () (tallyAt (rcvC (cy c)) () NC + tallyAt (rcvR (rx c)) () NR) := mayWait_local c _ (by decide) (by decide)
  have hm5 : (levAts L lv : sProp 𝕄) ⊢ MayWait (c : Thread nD τ) (.dma (dS 5)) () (tallyAt (rcvC (cy c)) () NC + tallyAt (rcvR (rx c)) () NR) := mayWait_local c _ (by decide) (by decide)
  unfold bodyAt0
  sl_unfold [cc0_body]
  sl_exec
  iapply (Rounds.wp_signal Variants.none ER (haloRd m) (c : Thread nD τ) none (dst := (rx c : Thread nD τ)) (κ := K (rx c, 0))
      (d := true) (by rw [duties_bar]; exact Finset.mem_univ _) ((amount_bar m (rx c) true).trans (by decide)) ()
      (tallyAt (rcvC (cy c)) () NC + tallyAt (rcvR (rx c)) () NR + tallyAt (barCell (cy c)) () 1) rfl) $$ [HO Htr H8]
  · isplitr; · iexact HIbr
    isplitl [HO]; · iexact HO
    isplitl [Htr]; · iexact Htr
    isplitl [H8]
    · rw [tbl_bar_true, rx_rx]
      isplitl [H8]; · iexists f8; iexact H8
      iexact Hrr
    · iexact Hrbr
  iintro HO
  sl_exec
  iapply (Rounds.wp_signal Variants.none ER (haloRd m) (c : Thread nD τ) none (dst := (cy c : Thread nD τ)) (κ := K (cy c, 0))
      (d := false) (by rw [duties_bar]; exact Finset.mem_univ _) ((amount_bar m (cy c) false).trans (by decide)) ()
      (tallyAt (rcvC (cy c)) () NC + tallyAt (rcvR (rx c)) () NR) rfl) $$ [HO Htc H9]
  · isplitr; · iexact HIbc
    isplitl [HO]; · iexact HO
    isplitl [Htc]; · iexact Htc
    isplitl [H9]
    · rw [tbl_bar_false, cy_cy]
      isplitl [H9]; · iexists f9; iexact H9
      iexact Hrc
    · iexact Hrbc
  iintro HO
  sl_exec
  ihave Hp := (Entails.of_eq (tbl_rest_bar' m c)) $$ Hat_pay1
  icases Hp with ⟨⟨⟨%g9, H9⟩, #Hrvc⟩, ⟨%g8, H8⟩, #Hrvr⟩
  have e6 : (Memref.whole cc0_scratch6).view.writes (Elt F) f6 [⟨Rect.unit ![0, 0] S1x3072.size inb_S1x3072_S1x3072_0_0, seg1.sl.v47 m c⟩] = rowOut m c := by
    have e40 : seg1.sl.v40 m c = rtile m c := readCov_whole cc0_scratch2 _ hz _
    have e47 : seg1.sl.v47 m c = rowOut m c := by
      unfold rowOut; rw [← e40]; rfl
    rw [e47]
    exact writes_whole cc0_scratch6 f6 _ hz _
  have e7 : (Memref.whole cc0_scratch7).view.writes (Elt F) f7 [⟨Rect.unit ![0, 0] S3072x1.size inb_S3072x1_S3072x1_0_0, seg1.sl.v58 m c⟩] = colOut m c := by
    have e51 : seg1.sl.v51 m c = ctile m c := readCov_whole cc0_scratch3 _ hz _
    have e58 : seg1.sl.v58 m c = colOut m c := by
      unfold colOut; rw [← e51]; rfl
    rw [e58]
    exact writes_whole cc0_scratch7 f7 _ hz _
  ihave H6 := (pts_congr c cc0_scratch6 fullShare e6) $$ H6
  ihave H7 := (pts_congr c cc0_scratch7 fullShare e7) $$ H7
  iapply (wp_send_row m K c (rx c) rfl rfl rfl g8 _) $$ [H6 H8 HO HtsR HtrR]
  · isplitr; · iexact HIsr
    isplitr; · iexact HIrr
    isplitl [H6]; · iexact H6
    isplitl [H8]; · iexact H8
    isplitl [HO]; · iexact HO
    isplitl [HtsR]; · iexact HtsR
    isplitr; · iexact Hrsr
    isplitl [HtrR]; · iexact HtrR
    iexact Hrvr
  iintro ⟨HcsR, HO⟩
  sl_exec
  iapply (wp_send_col m K c (cy c) rfl rfl rfl g9 _) $$ [H7 H9 HO HtsC HtrC]
  · isplitr; · iexact HIsc
    isplitr; · iexact HIrc
    isplitl [H7]; · iexact H7
    isplitl [H9]; · iexact H9
    isplitl [HO]; · iexact HO
    isplitl [HtsC]; · iexact HtsC
    isplitr; · iexact Hrsc
    isplitl [HtrC]; · iexact HtrC
    iexact Hrvc
  iintro ⟨HcsC, HO⟩
  set_option sl_exec.dmaWindow true in set_option sl_exec.dmaWindowSet true in sl_exec
  ihave H1a := (slot0_in c _) $$ H1a
  icases H1a with ⟨%G0, %hG0, H1a⟩
  set_option sl_exec.maxSteps 17 in set_option sl_exec.dmaWindow true in set_option sl_exec.dmaWindowSet true in sl_exec
  ihave H1b := (slot1_in c _) $$ H1b
  icases H1b with ⟨%G1, %hG1, H1b⟩
  set_option sl_exec.maxSteps 8 in set_option sl_exec.dmaWindow true in set_option sl_exec.dmaWindowSet true in sl_exec
  ihave H1a := (slot0_out c _) $$ H1a
  set_option sl_exec.maxSteps 11 in set_option sl_exec.dmaWindow true in set_option sl_exec.dmaWindowSet true in sl_exec
  ihave H1a := (slot0_in c _) $$ H1a
  icases H1a with ⟨%G2, %hG2, H1a⟩
  set_option sl_exec.maxSteps 8 in set_option sl_exec.dmaWindow true in set_option sl_exec.dmaWindowSet true in sl_exec
  ihave H1b := (slot1_out c _) $$ H1b
  set_option sl_exec.maxSteps 13 in set_option sl_exec.dmaWindow true in set_option sl_exec.dmaWindowSet true in sl_exec
  ihave H1b := (slot1_in c _) $$ H1b
  icases H1b with ⟨%G3, %hG3, H1b⟩
  set_option sl_exec.maxSteps 8 in set_option sl_exec.dmaWindow true in set_option sl_exec.dmaWindowSet true in sl_exec
  ihave H1a := (slot0_out c _) $$ H1a
  set_option sl_exec.maxSteps 11 in set_option sl_exec.dmaWindow true in set_option sl_exec.dmaWindowSet true in sl_exec
  ihave H1a := (slot0_in c _) $$ H1a
  icases H1a with ⟨%G4, %hG4, H1a⟩
  set_option sl_exec.maxSteps 7 in set_option sl_exec.dmaWindow true in set_option sl_exec.dmaWindowSet true in sl_exec
  ihave H1b := (slot1_out c _) $$ H1b
  set_option sl_exec.maxSteps 20 in set_option sl_exec.dmaWindow true in set_option sl_exec.dmaWindowSet true in sl_exec
  ihave H1b := (slot1_in c _) $$ H1b
  icases H1b with ⟨%G5, %hG5, H1b⟩
  ihave HasC := (aside _) $$ HasC
  set_option sl_exec.dmaWindow true in set_option sl_exec.dmaWindowSet true in sl_exec
  ihave HasC := HasC $$ []
  · iempintro
  iapply (wp_wait_sndC m K c rfl _) $$ [HcsC HO HasC]
  · isplitr; · iexact HIsc
    isplitl [HcsC]; · iexact HcsC
    isplitl [HO]; · iexact HO
    iexact HasC
  iintro ⟨HO, HasC, #HasC_reached, HasC_pay1⟩
  ihave HarC := (aside _) $$ HarC
  set_option sl_exec.dmaWindow true in set_option sl_exec.dmaWindowSet true in sl_exec
  ihave HarC := HarC $$ []
  · iempintro
  iapply (wp_wait_rcvC m K c rfl _) $$ [HcrC HO HarC]
  · isplitr; · iexact HIvc
    isplitl [HcrC]; · iexact HcrC
    isplitl [HO]; · iexact HO
    iexact HarC
  iintro ⟨HO, HarC, #HarC_reached, HarC_pay1⟩
  set_option sl_exec.dmaWindow true in set_option sl_exec.dmaWindowSet true in sl_exec
  ihave H8 := (Entails.of_eq (one_rcvR m c)) $$ HarR_pay1
  ihave H9 := (Entails.of_eq (one_rcvC m c)) $$ HarC_pay1
  ihave H6 := (Entails.of_eq (one_sndR m c)) $$ HasR_pay1
  ihave H7 := (Entails.of_eq (one_sndC m c)) $$ HasC_pay1
  ihave Hout := (out_join c _ _ _ _ _ _) $$ [Ho0 Ho1 Ho2 Ho3 Ho4 Ho5]
  · isplitl [Ho0]; · iexact Ho0
    isplitl [Ho1]; · iexact Ho1
    isplitl [Ho2]; · iexact Ho2
    isplitl [Ho3]; · iexact Ho3
    isplitl [Ho4]; · iexact Ho4
    iexact Ho5
  imod (wm_enter c ιw _ (spec m c)) $$ [Hout] with ⟨Hbl, Hbr⟩
  · isplitr; · iexact Hwm
    iexact Hout
  set_option sl_exec.dmaWindow true in set_option sl_exec.dmaWindowSet true in sl_exec
  ihave H10 := (hold c cc0_scratch10 _) $$ H10
  icases H10 with ⟨%P, %hP, H10⟩
  have hwA : (wA c).view.Admitted (Elt F) (fun i => some (spec m c i)) ((Memref.whole cc0_scratch10).view.read (Elt F) P) Finset.univ := by
    rw [hP]
    exact adm_edge m c f10 (seg1.sl.v434 c = 1#1) (seg1.sl.v437 c = 1#1) (tx0 c) (tx1 c) _ _ _ _ _ (seg1.sl.v397 m c)
      (readCov_whole cc0_scratch4 _ hz _) _ (seg1.sl.r_9 m c)
      (by
        have e9 : View.readAt (Elt F) (Memref.whole cc0_scratch9).view (Rect.unit ![0, 0] S3072x1.size inb_S3072x1_S3072x1_0_0).toLoadRect (colOut m (cy c)) = colOut m (cy c) := Memref.readAt_unit_zero (Elt F) cc0_scratch9 hz _ _
        have e8 : View.readAt (Elt F) (Memref.whole cc0_scratch8).view (Rect.unit ![0, 0] S1x3072.size inb_S1x3072_S1x3072_0_0).toLoadRect (rowOut m (rx c)) = rowOut m (rx c) := Memref.readAt_unit_zero (Elt F) cc0_scratch8 hz _ _
        have h7 : seg1.sl.r_7 m c = k0_pay37 (colOut m (cy c)) := congrArg k0_pay37 e9
        have h10 : seg1.sl.r_10 m c = k0_pay40 (yw c) (rowOut m (rx c)) := congrArg (k0_pay40 (yw c)) e8
        have h11 : seg1.sl.r_11 m c = k0_pay41 (yw c) (rowOut m (rx c)) (seg1.sl.v397 m c) := congrArg (fun z => k0_pay41 (yw c) z (seg1.sl.v397 m c)) e8
        rw [h7, h10, h11]; rfl) rfl
      (seg1.sl.old_2 m c) (seg1.sl.old_3 m c f10)
      (cov_top _ _ _ _) rfl
  iapply (wp_patch c ιw (src := Memref.whole cc0_scratch10) (dst := wA c) _ rfl (View.amount_pos _ _ (by decide)) hwA) $$ [H10 Hbl Hs6]
  · isplitr; · iexact Hwm
    isplitl [H10]; · iexact H10
    isplitl [Hbl]; · iexact Hbl
    iexact Hs6
  iintro Hf6
  set_option sl_exec.dmaWindow true in set_option sl_exec.dmaWindowSet true in sl_exec
  ihave H11 := (hold c cc0_scratch11 _) $$ H11
  icases H11 with ⟨%R, %hR, H11⟩
  have hwB : (wB c).view.Admitted (Elt F) (fun i => some (spec m c i)) ((Memref.whole cc0_scratch11).view.read (Elt F) R) Finset.univ := by
    rw [hR]
    exact adm_row m c f11 (seg1.sl.v478 c = 1#1) (seg1.sl.v481 c = 1#1) (ty0 c) (ty1 c) _ _ _ (seg1.sl.v441 m c)
      (readCov_whole cc0_scratch5 _ hz _) _ (seg1.sl.r_14 m c)
      (by
        have e9 : View.readAt (Elt F) (Memref.whole cc0_scratch9).view (Rect.unit ![0, 0] S3072x1.size inb_S3072x1_S3072x1_0_0).toLoadRect (colOut m (cy c)) = colOut m (cy c) := Memref.readAt_unit_zero (Elt F) cc0_scratch9 hz _ _
        have e8 : View.readAt (Elt F) (Memref.whole cc0_scratch8).view (Rect.unit ![0, 0] S1x3072.size inb_S1x3072_S1x3072_0_0).toLoadRect (rowOut m (rx c)) = rowOut m (rx c) := Memref.readAt_unit_zero (Elt F) cc0_scratch8 hz _ _
        have h7 : seg1.sl.r_7 m c = k0_pay37 (colOut m (cy c)) := congrArg k0_pay37 e9
        have h6 : seg1.sl.r_6 m c = k0_pay36 (rowOut m (rx c)) := congrArg k0_pay36 e8
        have h15 : seg1.sl.r_15 m c = k0_pay48 (k0_pay36 (rowOut m (rx c))) (seg1.sl.v441 m c) := by rw [← h6]; rfl
        rw [h7, h6, h15]; rfl) rfl
  iapply (wp_patch c ιw (src := Memref.whole cc0_scratch11) (dst := wB c) _ rfl (View.amount_pos _ _ (by decide)) hwB) $$ [H11 Hbr Hs7]
  · isplitr; · iexact Hwm
    isplitl [H11]; · iexact H11
    isplitl [Hbr]; · iexact Hbr
    iexact Hs7
  iintro Hf7
  set_option sl_exec.dmaWindow true in set_option sl_exec.dmaWindowSet true in sl_exec
  imod (wm_leave c ιw _ (spec m c) _ _) $$ [Hf6_dst Hf7_dst] with Hout
  · isplitr; · iexact Hwm
    isplitl [Hf6_dst]; · iexact Hf6_dst
    iexact Hf7_dst
  have hv0 : Loaded m c 0 (seg1.sl.v92 m c f0) := fun p q hp hq h8 h3 =>
    (load_at m c 0 8 520 0 (by decide) _ _ _ _ _ _ _ p q hp hq (by omega) (by omega)).trans (congrArg (fun z => xb m c z q) (by omega))
  have hv1 : Loaded m c 1 (seg1.sl.v138 m c f0) := fun p q hp hq h8 h3 =>
    (load_at m c 1 0 528 504 (by decide) _ _ _ _ _ _ _ p q hp hq (by omega) (by omega)).trans (congrArg (fun z => xb m c z q) (by omega))
  have hv2 : Loaded m c 2 (seg1.sl.v186 m c f0) := fun p q hp hq h8 h3 =>
    (load_at m c 0 0 528 1016 (by decide) _ _ _ _ _ _ _ p q hp hq (by omega) (by omega)).trans (congrArg (fun z => xb m c z q) (by omega))
  have hv3 : Loaded m c 3 (seg1.sl.v234 m c f0) := fun p q hp hq h8 h3 =>
    (load_at m c 1 0 528 1528 (by decide) _ _ _ _ _ _ _ p q hp hq (by omega) (by omega)).trans (congrArg (fun z => xb m c z q) (by omega))
  have hv4 : Loaded m c 4 (seg1.sl.v282 m c f0) := fun p q hp hq h8 h3 =>
    (load_at m c 0 0 528 2040 (by decide) _ _ _ _ _ _ _ p q hp hq (by omega) (by omega)).trans (congrArg (fun z => xb m c z q) (by omega))
  have hv5 : Loaded m c 5 (seg1.sl.v325 m c f0) := fun p q hp hq h8 h3 =>
    (load_at m c 1 0 520 2552 (by decide) _ _ _ _ _ _ _ p q hp hq (by omega) (by omega)).trans (congrArg (fun z => xb m c z q) (by omega))
  have hg0 : Good m c 0 0 (by decide) G0 := by
    rw [hG0]
    exact rowed_ok m c 0 0 (by decide) (by decide) f1 _ _ _ (seg1.sl.v116 c = 1#1) (seg1.sl.v119 c = 1#1) (seg1.sl.v92 m c f0) _ _ _ (ty0 c) (ty1 c) rfl rfl rfl hv0
      (seg1.sl.v122 c = 1#1) 0 0 (by decide) _ _ _ (pay8_at (tv_at _)) _ rfl (Or.inl ⟨rfl, rfl, tx0 c⟩)
  have hg1 : Good m c 1 1 (by decide) G1 := by
    rw [hG1]
    exact plain_ok m c 1 1 (by decide) (by decide) f1 _ _ _ (seg1.sl.v162 c = 1#1) (seg1.sl.v165 c = 1#1) (seg1.sl.v138 m c f0) _ _ _ (ty0 c) (ty1 c) rfl rfl rfl hv1 (by decide) (by decide)
  have hg2 : Good m c 2 0 (by decide) G2 := by
    rw [hG2]
    exact plain_ok m c 2 0 (by decide) (by decide) G0 _ _ _ (seg1.sl.v210 c = 1#1) (seg1.sl.v213 c = 1#1) (seg1.sl.v186 m c f0) _ _ _ (ty0 c) (ty1 c) rfl rfl rfl hv2 (by decide) (by decide)
  have hg3 : Good m c 3 1 (by decide) G3 := by
    rw [hG3]
    exact plain_ok m c 3 1 (by decide) (by decide) G1 _ _ _ (seg1.sl.v258 c = 1#1) (seg1.sl.v261 c = 1#1) (seg1.sl.v234 m c f0) _ _ _ (ty0 c) (ty1 c) rfl rfl rfl hv3 (by decide) (by decide)
  have hg4 : Good m c 4 0 (by decide) G4 := by
    rw [hG4]
    exact plain_ok m c 4 0 (by decide) (by decide) G2 _ _ _ (seg1.sl.v306 c = 1#1) (seg1.sl.v309 c = 1#1) (seg1.sl.v282 m c f0) _ _ _ (ty0 c) (ty1 c) rfl rfl rfl hv4 (by decide) (by decide)
  have hg5 : Good m c 5 1 (by decide) G5 := by
    rw [hG5]
    exact rowed_ok m c 5 1 (by decide) (by decide) G3 _ _ _ (seg1.sl.v349 c = 1#1) (seg1.sl.v352 c = 1#1) (seg1.sl.v325 m c f0) _ _ _ (ty0 c) (ty1 c) rfl rfl rfl hv5
      (seg1.sl.v355 c = 1#1) 510 1 (by decide) _ _ _ (pay35_at (tv_at _)) _ rfl (Or.inr ⟨rfl, rfl, tx1 c⟩)
  ihave Hout := (pts_congr c main_v1 fullShare (fin_eq m c _ _ _ _ _ _
    (fun i hi ho => out_ok m c 0 0 0 (by decide) (by decide) rfl G0 hg0 _ _ _ _ _ o i hi ho)
    (fun i hi ho => out_ok m c 1 1 512 (by decide) (by decide) rfl G1 hg1 _ _ _ _ _ o i hi ho)
    (fun i hi ho => out_ok m c 2 0 1024 (by decide) (by decide) rfl G2 hg2 _ _ _ _ _ o i hi ho)
    (fun i hi ho => out_ok m c 3 1 1536 (by decide) (by decide) rfl G3 hg3 _ _ _ _ _ o i hi ho)
    (fun i hi ho => out_ok m c 4 0 2048 (by decide) (by decide) rfl G4 hg4 _ _ _ _ _ o i hi ho)
    (fun i hi ho => out_ok m c 5 1 2560 (by decide) (by decide) rfl G5 hg5 _ _ _ _ _ o i hi ho))) $$ Hout
  ihave H0 := (two_join c cc0_scratch0 xs0 xs1 (slots_disj _ _) (slots_union _ _) _ _) $$ [H0a H0b]
  · isplitl [H0a]; · iexact H0a
    iexact H0b
  ihave H1a := (slot0_out c _) $$ H1a
  ihave H1b := (slot1_out c _) $$ H1b
  ihave H1 := (two_join c cc0_scratch1 os0 os1 (slots_disj _ _) (slots_union _ _) _ _) $$ [H1a H1b]
  · isplitl [H1a]; · iexact H1a
    iexact H1b
  imod (Rounds.cell_close ER (haloRd m) (Set.mem_univ (K (c, 0))) (fun h => h) (R := 1) (duties_later m (barCell c))) $$ [Hat] with Hat
  · isplitr; · iexact HIb
    iexact Hat
  imod (Rounds.cell_close ER (haloRd m) (Set.mem_univ (K (c, 1))) (fun h => h) (R := 1) (duties_later m (sndR c))) $$ [HasR] with HasR
  · isplitr; · iexact HIsr
    iexact HasR
  imod (Rounds.cell_close ER (haloRd m) (Set.mem_univ (K (c, 2))) (fun h => h) (R := 1) (duties_later m (sndC c))) $$ [HasC] with HasC
  · isplitr; · iexact HIsc
    iexact HasC
  imod (Rounds.cell_close ER (haloRd m) (Set.mem_univ (K (c, 3))) (fun h => h) (R := 1) (duties_later m (rcvR c))) $$ [HarR] with HarR
  · isplitr; · iexact HIvr
    iexact HarR
  imod (Rounds.cell_close ER (haloRd m) (Set.mem_univ (K (c, 4))) (fun h => h) (R := 1) (duties_later m (rcvC c))) $$ [HarC] with HarC
  · isplitr; · iexact HIvc
    iexact HarC
  rw [wp_ret]
  imodintro
  iapply HK
  unfold bodyEnd
  isplitl [HO]; · iexists _; iexact HO
  isplitl [Hat]; · iexact Hat
  isplitl [HasR]; · iexact HasR
  isplitl [HasC]; · iexact HasC
  isplitl [HarR]; · iexact HarR
  isplitl [HarC]; · iexact HarC
  isplitl [Hx0]; · iexact Hx0
  isplitl [Hx1]; · iexact Hx1
  isplitl [Hx4]; · iexact Hx4
  isplitl [Hx5]; · iexact Hx5
  isplitl [Hx6]; · iexact Hx6
  isplitl [Hx7]; · iexact Hx7
  isplitl [Hout]; · iexact Hout
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [Hf6_src]; · iexists _; iexact Hf6_src
  isplitl [Hf7_src]; · iexists _; iexact Hf7_src
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hf6]; · iexact Hf6
  iexact Hf7

end Cert.KernelIdeal.Halo

end
-- ==== Proof.KernelIdeal.Run.lean ====
module

public import proofs.«01_k».proof.Proof.KernelIdeal.Body
public import Idealize.ShloMosaic.Lib.Pipeline.CollectiveSegs

@[expose] public section

/-! The launch: what each device starts from, how the launch element is dealt, and the run of the whole mesh. -/

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU (Elt F)) ℕ

variable (m : (ℓ : Loc nD τ sig) → Buf (Elt F) ℓ) (ρ : Dev nD → PrngReg)

/-! ## A device's start and end -/

/-- The eight semaphores of a device's local copies, at zero. -/
def locals (c : Dev nD) : sProp 𝕄 :=
  iprop(semVal ((c : Thread nD τ), .dma (dS 0)) 0 ∗ semVal ((c : Thread nD τ), .dma (dS 1)) 0 ∗ semVal ((c : Thread nD τ), .dma (dS 2)) 0 ∗ semVal ((c : Thread nD τ), .dma (dS 3)) 0 ∗ semVal ((c : Thread nD τ), .dma (dS 4)) 0 ∗ semVal ((c : Thread nD τ), .dma (dS 5)) 0 ∗ semVal ((c : Thread nD τ), .dma (dS 6)) 0 ∗ semVal ((c : Thread nD τ), .dma (dS 7)) 0)

/-- A device's twelve scratch buffers, at whatever they hold. -/
def scratch (c : Dev nD) : sProp 𝕄 :=
  iprop((∃ f, pts c cc0_scratch0 fullShare f) ∗ (∃ f, pts c cc0_scratch1 fullShare f) ∗ (∃ f, pts c cc0_scratch2 fullShare f) ∗ (∃ f, pts c cc0_scratch3 fullShare f) ∗ (∃ f, pts c cc0_scratch4 fullShare f) ∗ (∃ f, pts c cc0_scratch5 fullShare f) ∗ (∃ f, pts c cc0_scratch6 fullShare f) ∗ (∃ f, pts c cc0_scratch7 fullShare f) ∗ (∃ f, pts c cc0_scratch8 fullShare f) ∗ (∃ f, pts c cc0_scratch9 fullShare f) ∗ (∃ f, pts c cc0_scratch10 fullShare f) ∗ (∃ f, pts c cc0_scratch11 fullShare f))

/-- The cell invariants a device opens: its own five, both neighbours' barriers, the arrivals it sends to. -/
def known (K : Dev nD × Fin 5 → ℕ) (c : Dev nD) : sProp 𝕄 :=
  iprop(cellInv ER (haloRd m) (K (c, 0)) (barCell c) ∗ cellInv ER (haloRd m) (K (c, 1)) (sndR c) ∗ cellInv ER (haloRd m) (K (c, 2)) (sndC c)
    ∗ cellInv ER (haloRd m) (K (c, 3)) (rcvR c) ∗ cellInv ER (haloRd m) (K (c, 4)) (rcvC c)
    ∗ cellInv ER (haloRd m) (K (rx c, 0)) (barCell (rx c)) ∗ cellInv ER (haloRd m) (K (cy c, 0)) (barCell (cy c))
    ∗ cellInv ER (haloRd m) (K (rx c, 3)) (rcvR (rx c)) ∗ cellInv ER (haloRd m) (K (cy c, 4)) (rcvC (cy c)))

/-- The rounds known to be reached: both neighbours' barriers, its own departures and arrivals. -/
def marks (c : Dev nD) : sProp 𝕄 :=
  iprop(reached ER (barCell (rx c)) 0 ∗ reached ER (barCell (cy c)) 0 ∗ reached ER (sndR c) 0 ∗ reached ER (sndC c) 0
    ∗ reached ER (rcvR c) 0 ∗ reached ER (rcvC c) 0)

/-- Its places at its own five cells. -/
def places (c : Dev nD) : sProp 𝕄 :=
  iprop(atPos ER (barCell c) 0 ∅ 0 ∗ atPos ER (sndR c) 0 ∅ 0 ∗ atPos ER (sndC c) 0 ∅ 0 ∗ atPos ER (rcvR c) 0 ∅ 0 ∗ atPos ER (rcvC c) 0 ∅ 0)

/-- The duties of its own cells, as they are made; -/
def minted (c : Dev nD) : sProp 𝕄 :=
  iprop(dutyTok ER (barCell c) 0 false ∗ dutyTok ER (barCell c) 0 true ∗ dutyTok ER (sndR c) 0 false ∗ dutyTok ER (sndC c) 0 false
    ∗ dutyTok ER (rcvR c) 0 false ∗ dutyTok ER (rcvC c) 0 false)
/-- and the duties it pays. -/
def paid (c : Dev nD) : sProp 𝕄 :=
  iprop(dutyTok ER (barCell (cy c)) 0 false ∗ dutyTok ER (barCell (rx c)) 0 true ∗ dutyTok ER (sndR c) 0 false ∗ dutyTok ER (sndC c) 0 false
    ∗ dutyTok ER (rcvR (rx c)) 0 false ∗ dutyTok ER (rcvC (cy c)) 0 false)

/-- What no other device has: its places, the duties it pays, its local semaphores, and write mode. -/
def alone (c : Dev nD) : sProp 𝕄 := iprop(places c ∗ paid c ∗ locals c ∗ ∃ ιw : ℕ, wmInv EW ιw)

/-- A device's share of the protocol at the start. -/
def protocol (c : Dev nD) : sProp 𝕄 := iprop(∃ K : Dev nD × Fin 5 → ℕ, known m K c ∗ marks c ∗ alone c)

/-- That, its credit, the levels, its block and its result buffer. -/
def begins (c : Dev nD) : sProp 𝕄 :=
  iprop(protocol m c ∗ cred (tallyAt (barCell c) () 2) ∗ cred (tallyAt (rcvR c) () NR) ∗ cred (tallyAt (rcvC c) () NC) ∗ levAts L lv
    ∗ pts c main_arg0 fullShare (xin m c) ∗ pts c main_v1 fullShare (m ((c : Thread nD τ).loc main_v1)))

/-- What the exit passes on: the barrier at zero, the block as it was, the result. -/
def shown (c : Dev nD) : sProp 𝕄 :=
  iprop(semVal (barCell c) 0 ∗ pts c main_arg0 fullShare (xin m c) ∗ pts c main_v1 fullShare (spec m c))

/-- At the end: that, every semaphore at zero, and the scratch. -/
def ended (c : Dev nD) : sProp 𝕄 :=
  iprop(shown m c ∗ (semVal (sndR c) 0 ∗ semVal (sndC c) 0 ∗ semVal (rcvR c) 0 ∗ semVal (rcvC c) 0 ∗ locals c) ∗ scratch c)

/-- The launch's data: no window; at the one point the body pays all that is owed. -/
def dats (_ : Fin 1) (c : Dev nD) : Pipeline.Dat τ (Elt F) Unit ℕ (UU (Elt F)) ℕ cfg0 c where
  A w := w.elim0
  after w _ := w.elim0
  Φ t := match t with
    | ⟨0, _⟩ => iprop(begins m c ∗ scratch c)
    | ⟨_ + 1, _⟩ => ended m c
  q _ := fullShare
  owed t := match t with
    | ⟨0, _⟩ => O₀ c
    | ⟨_ + 1, _⟩ => 0

theorem no_window (Ψ : Fin cfg0.W → sProp 𝕄) : bigSep Finset.univ Ψ = iprop(emp) :=
  BI.bigSep_empty

/-! ## The argument's shares -/

/-- What is left of an argument when eight readers' shares are taken, and the two of them nobody uses. -/
def unread (c : Dev nD) : sProp 𝕄 :=
  iprop(pts c main_arg0 (Transfers.shareDrop fullShare 8) (xin m c) ∗ pts c main_arg0 (tok 2) (xin m c) ∗ pts c main_arg0 (tok 3) (xin m c))

theorem eight (Ψ : ℕ → sProp 𝕄) : bigSep (Finset.range 8) Ψ = iprop(Ψ 7 ∗ Ψ 6 ∗ Ψ 5 ∗ Ψ 4 ∗ Ψ 3 ∗ Ψ 2 ∗ Ψ 1 ∗ Ψ 0) := by
  rw [Finset.range_add_one, BI.bigSep_insert Finset.notMem_range_self, Finset.range_add_one, BI.bigSep_insert Finset.notMem_range_self,
    Finset.range_add_one, BI.bigSep_insert Finset.notMem_range_self, Finset.range_add_one, BI.bigSep_insert Finset.notMem_range_self,
    Finset.range_add_one, BI.bigSep_insert Finset.notMem_range_self, Finset.range_add_one, BI.bigSep_insert Finset.notMem_range_self,
    Finset.range_add_one, BI.bigSep_insert Finset.notMem_range_self, show Finset.range 1 = {0} from rfl, bigSep_singleton]
  rfl

theorem share_out (c : Dev nD) : (pts c main_arg0 fullShare (xin m c) : sProp 𝕄)
    ⊢ iprop(pts c main_arg0 (tok 0) (xin m c) ∗ pts c main_arg0 (tok 1) (xin m c) ∗ pts c main_arg0 (tok 4) (xin m c)
      ∗ pts c main_arg0 (tok 5) (xin m c) ∗ pts c main_arg0 (tok 6) (xin m c) ∗ pts c main_arg0 (tok 7) (xin m c) ∗ unread m c) := by
  refine (Transfers.pointsTo_toks_range fullShare 8).1.trans ?_
  rw [eight]
  unfold unread
  iintro ⟨HR, H7, H6, H5, H4, H3, H2, H1, H0⟩
  isplitl [H0]; · iexact H0
  isplitl [H1]; · iexact H1
  isplitl [H4]; · iexact H4
  isplitl [H5]; · iexact H5
  isplitl [H6]; · iexact H6
  isplitl [H7]; · iexact H7
  isplitl [HR]; · iexact HR
  isplitl [H2]; · iexact H2
  iexact H3

theorem share_in (c : Dev nD) : (iprop(pts c main_arg0 (tok 0) (xin m c) ∗ pts c main_arg0 (tok 1) (xin m c) ∗ pts c main_arg0 (tok 4) (xin m c)
      ∗ pts c main_arg0 (tok 5) (xin m c) ∗ pts c main_arg0 (tok 6) (xin m c) ∗ pts c main_arg0 (tok 7) (xin m c) ∗ unread m c) : sProp 𝕄)
    ⊢ pts c main_arg0 fullShare (xin m c) := by
  refine BIBase.Entails.trans ?_ (Transfers.pointsTo_toks_range fullShare 8).2
  rw [eight]
  unfold unread
  iintro ⟨H0, H1, H4, H5, H6, H7, HR, H2, H3⟩
  isplitl [HR]; · iexact HR
  isplitl [H7]; · iexact H7
  isplitl [H6]; · iexact H6
  isplitl [H5]; · iexact H5
  isplitl [H4]; · iexact H4
  isplitl [H3]; · iexact H3
  isplitl [H2]; · iexact H2
  isplitl [H1]; · iexact H1
  iexact H0

theorem slots_x : Disjoint xs0.set xs1.set ∧ xs0.set ∪ xs1.set = Finset.univ := ⟨slots_disj _ _, slots_union _ _⟩
theorem slots_o : Disjoint os0.set os1.set ∧ os0.set ∪ os1.set = Finset.univ := ⟨slots_disj _ _, slots_union _ _⟩

/-! ## The body's obligation -/

def before (c : Dev nD) : sProp 𝕄 :=
  iprop((begins m c ∗ scratch c) ∗ (dats m 0 c).owesAt () (t0_0 : Fin cfg0.N).castSucc ∗ emp)
def after (c : Dev nD) : sProp 𝕄 :=
  iprop(ended m c ∗ (dats m 0 c).owesAt () (t0_0 : Fin cfg0.N).succ ∗ emp)

theorem body_run (c : Dev nD) : (before m c : sProp 𝕄)
    ⊢ wp frame (wpE (defs₀ (F := F)) Variants.none c none) Set.univ (bodyAt0 t0_0) (fun _ => after m c) := by
  unfold before begins protocol known marks alone places paid locals scratch
  iintro ⟨⟨⟨⟨%K, ⟨#HI0, #HI1, #HI2, #HI3, #HI4, #HIrb, #HIcb, #HIrr, #HIcc⟩, ⟨#Hm0, #Hm1, #Hm2, #Hm3, #Hm4, #Hm5⟩, ⟨HaB, HaS, HaC, HaR, HaV⟩, ⟨HtbC, HtbR, HtS, HtC, HtrR, HtrC⟩, ⟨Hs0, Hs1, Hs2, Hs3, Hs4, Hs5, Hs6, Hs7⟩, %ιw, #Hwm⟩, HcB, HcR, HcC, #Hlev, Hx, Ho⟩, ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩⟩⟩, HO, -⟩
  icases HO with ⟨%W, -, HO⟩
  ihave Hx := (share_out m c) $$ Hx
  icases Hx with ⟨Hx0, Hx1, Hx4, Hx5, Hx6, Hx7, Hxr⟩
  ihave Ho := (out_split c (m ((c : Thread nD τ).loc main_v1))).1 $$ Ho
  icases Ho with ⟨Ho0, Ho1, Ho2, Ho3, Ho4, Ho5⟩
  ihave H0 := (two_split c cc0_scratch0 xs0 xs1 slots_x.1 slots_x.2 f0) $$ H0
  icases H0 with ⟨H0a, H0b⟩
  ihave H1 := (two_split c cc0_scratch1 os0 os1 slots_o.1 slots_o.2 f1) $$ H1
  icases H1 with ⟨H1a, H1b⟩
  iapply (seg1 m K c ιw W (m ((c : Thread nD τ).loc main_v1)) f0 f1 f2 f3 f4 f5 f6 f7 f8 f9 f10 f11 (fun _ => after m c))
  isplitl [HtS HtrR HtC HtrC]
  · isplitr; · iexact HI1
    isplitr; · iexact HIrr
    isplitr; · iexact HI2
    isplitr; · iexact HIcc
    isplitl [HtS]; · iexact HtS
    isplitl [HtrR]; · iexact HtrR
    isplitl [HtC]; · iexact HtC
    isplitl [HtrC]; · iexact HtrC
    isplitr; · iexact Hm2
    iexact Hm3
  isplitr; · iexact HI0
  isplitr; · iexact HIrb
  isplitr; · iexact HIcb
  isplitl [HaB]; · iexact HaB
  isplitr; · iexact Hm0
  isplitr; · iexact Hm1
  isplitr; · iexact Hm4
  isplitr; · iexact Hm5
  isplitl [HtbR]; · iexact HtbR
  isplitl [HtbC]; · iexact HtbC
  isplitl [HcB]; · iexact HcB
  isplitr; · iexact Hlev
  isplitl [HO]; · iexact HO
  isplitl [Hx0]; · iexact Hx0
  isplitl [Hx1]; · iexact Hx1
  isplitl [Hx4]; · iexact Hx4
  isplitl [Hx5]; · iexact Hx5
  isplitl [Hx6]; · iexact Hx6
  isplitl [Hx7]; · iexact Hx7
  isplitl [Ho0]; · iexact Ho0
  isplitl [Ho1]; · iexact Ho1
  isplitl [Ho2]; · iexact Ho2
  isplitl [Ho3]; · iexact Ho3
  isplitl [Ho4]; · iexact Ho4
  isplitl [Ho5]; · iexact Ho5
  isplitl [H0a]; · iexact H0a
  isplitl [H0b]; · iexact H0b
  isplitl [H1a]; · iexact H1a
  isplitl [H1b]; · iexact H1b
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitr; · iexact HI3
  isplitr; · iexact HI4
  isplitl [HaS]; · iexact HaS
  isplitl [HaC]; · iexact HaC
  isplitl [HaR]; · iexact HaR
  isplitl [HaV]; · iexact HaV
  isplitl [HcR]; · iexact HcR
  isplitl [HcC]; · iexact HcC
  isplitr; · iexact Hwm
  iintro He
  unfold bodyEnd
  icases He with ⟨⟨%W', HO⟩, HB, HsR, HsC, HrR, HrC, Hx0, Hx1, Hx4, Hx5, Hx6, Hx7, Ho, H0, H1, H2, H3, H4, H5, H6, H7, H8, H9, H10, H11, Hs0, Hs1, Hs2, Hs3, Hs4, Hs5, Hs6, Hs7⟩
  ihave Hx := (share_in m c) $$ [Hx0 Hx1 Hx4 Hx5 Hx6 Hx7 Hxr]
  · isplitl [Hx0]; · iexact Hx0
    isplitl [Hx1]; · iexact Hx1
    isplitl [Hx4]; · iexact Hx4
    isplitl [Hx5]; · iexact Hx5
    isplitl [Hx6]; · iexact Hx6
    isplitl [Hx7]; · iexact Hx7
    iexact Hxr
  unfold after ended shown locals scratch
  isplitr [HO]
  · isplitl [HB Hx Ho]
    · isplitl [HB]; · iexact HB
      isplitl [Hx]; · iexact Hx
      iexact Ho
    isplitl [HsR HsC HrR HrC Hs0 Hs1 Hs2 Hs3 Hs4 Hs5 Hs6 Hs7]
    · isplitl [HsR]; · iexact HsR
      isplitl [HsC]; · iexact HsC
      isplitl [HrR]; · iexact HrR
      isplitl [HrC]; · iexact HrC
      isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      iexact Hs7
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  isplitl [HO]
  · iexists W'
    isplitr; · ipureintro; exact fun _ _ => Or.inl trivial
    iexact HO
  iempintro

theorem body_obligation (c : Dev nD) : Pipeline.BodyObligation (dats (F := F) m 0 c) (defs₀ (F := F)) Variants.none () Set.univ := fun t => by
  rw [fin_N0 t, no_window, no_window]
  exact body_run m c

/-! ## The launch element and how it is dealt -/

/-- The pool's twelve semaphores. -/
abbrev osem : Fin 12 → SemLoc sig := fun k => .dma (dS k)
theorem osem_facts : Pipeline.OwnSemFacts cfg0.spec osem := by decide

theorem kcell_inj : Function.Injective (kcell : Dev nD × Fin 5 → GSem nD τ sig) := by
  rintro ⟨c, k⟩ ⟨d, j⟩ h
  obtain rfl : c = d := congrArg (fun g : GSem nD τ sig => g.1.1) h
  have hs : csem k = csem j := congrArg Prod.snd h
  obtain rfl : k = j := by fin_cases k <;> fin_cases j <;> first | rfl | exact absurd hs (by decide)
  rfl
/-- The protocol's cells over the mesh. -/
def cells : Finset (GSem nD τ sig) := Finset.univ.map ⟨kcell, kcell_inj⟩

/-- Each duty of a device's cells. -/
abbrev duty (cj : Dev nD × Fin 6) : GSem nD τ sig × ℕ × Bool := match cj.2 with
  | 0 => (barCell cj.1, 0, false) | 1 => (barCell cj.1, 0, true) | 2 => (sndR cj.1, 0, false) | 3 => (sndC cj.1, 0, false)
  | 4 => (rcvR cj.1, 0, false) | 5 => (rcvC cj.1, 0, false)
theorem duty_inj : Function.Injective (duty : Dev nD × Fin 6 → GSem nD τ sig × ℕ × Bool) := by
  rintro ⟨c, k⟩ ⟨d, j⟩ h
  obtain rfl : c = d := by
    have := congrArg (fun x : GSem nD τ sig × ℕ × Bool => x.1.1.1) h
    fin_cases k <;> fin_cases j <;> exact this
  have hs := congrArg (fun x : GSem nD τ sig × ℕ × Bool => (x.1.2, x.2.2)) h
  obtain rfl : k = j := by fin_cases k <;> fin_cases j <;> first | rfl | exact absurd hs (fun h' => by cases h')
  rfl
def duties : Finset (GSem nD τ sig × ℕ × Bool) := Finset.univ.map ⟨duty, duty_inj⟩

/-- The launch element: the library's, the protocol's, write mode's, and no counter. -/
def u₀ : UU (Elt F) :=
  (initOf (Pipeline.cells cfgs cellOf_inj) (Pipeline.launchToks cfgs cellOf_inj), (initOf cells duties, (wm₀ nD τ sig (Elt F), 1)))

/-- What the launch element gives a device. -/
def dealt (c : Dev nD) : sProp 𝕄 :=
  iprop((bigSep Finset.univ fun k : Fin 5 => roundState ER (haloRd m) (kcell (c, k)) 0)
    ∗ (bigSep Finset.univ fun k : Fin 5 => iprop(atPos ER (kcell (c, k)) 0 ∅ 0 ∗ reached ER (kcell (c, k)) 0)) ∗ minted c
    ∗ ∃ ιw : ℕ, wmInv EW ιw)

omit [FloatOps F] in
theorem five (Ψ : Fin 5 → sProp 𝕄) : bigSep Finset.univ Ψ = iprop(Ψ 0 ∗ Ψ 1 ∗ Ψ 2 ∗ Ψ 3 ∗ Ψ 4) :=
  bigSep_univ_eq_bigSepL [0, 1, 2, 3, 4] (by decide) (by decide) Ψ
omit [FloatOps F] in
theorem six (Ψ : Fin 6 → sProp 𝕄) : bigSep Finset.univ Ψ = iprop(Ψ 0 ∗ Ψ 1 ∗ Ψ 2 ∗ Ψ 3 ∗ Ψ 4 ∗ Ψ 5) :=
  bigSep_univ_eq_bigSepL [0, 1, 2, 3, 4, 5] (by decide) (by decide) Ψ

omit [FloatOps F] in
theorem over_cells (Ψ : GSem nD τ sig → sProp 𝕄) :
    bigSep cells Ψ = bigSep Finset.univ fun c : Dev nD => bigSep Finset.univ fun k : Fin 5 => Ψ (kcell (c, k)) := by
  unfold cells; rw [bigSep_map, bigSep_univ_prod]; rfl
omit [FloatOps F] in
theorem over_duties : bigSep duties (fun x => (dutyTok ER x.1 x.2.1 x.2.2 : sProp 𝕄)) = bigSep Finset.univ fun c : Dev nD => minted c := by
  unfold duties; rw [bigSep_map, bigSep_univ_prod]
  exact bigSep_congr fun c _ => by unfold minted; rw [six]; rfl

omit [FloatOps F] in
/-- The launch element in its three parts. -/
theorem three_parts : (ownU (u₀ (F := F)) : sProp 𝕄)
    ⊢ iprop(BI.own (EP (initOf (Pipeline.cells cfgs cellOf_inj) (Pipeline.launchToks cfgs cellOf_inj)))
      ∗ BI.own (ER (initOf cells duties)) ∗ ownU (EW (wm₀ nD τ sig (Elt F)))) := by
  unfold u₀
  refine (ownU_pair _ _).trans (sep_mono_right ?_)
  refine (own_pair_emb (embR : Emb (UV (Elt F)) (MT nD τ sig Unit (Elt F) ℕ (UU (Elt F)) ℕ)) _ _).trans (sep_mono_right ?_)
  refine (own_pair_emb ((Emb.inr : Emb (WmRA nD τ sig (Elt F) × Counters) (UV (Elt F))).trans (embR : Emb (UV (Elt F)) (MT nD τ sig Unit (Elt F) ℕ (UU (Elt F)) ℕ))) _ _).trans ?_
  change iprop(ownU (EW (wm₀ nD τ sig (Elt F))) ∗ _) ⊢ _
  iintro ⟨H, -⟩
  iexact H

theorem deal (ρ : Dev nD → PrngReg) : (ownU (u₀ (F := F)) : sProp 𝕄)
    ⊢ |={Set.univ}=> iprop(BI.own (EP (initOf (Pipeline.cells cfgs cellOf_inj) (Pipeline.launchToks cfgs cellOf_inj))) ∗ bigSep Finset.univ (dealt m)) := by
  refine (three_parts (F := F)).trans ?_
  iintro ⟨HP, HX, HW⟩
  imod (Rounds.fund ER (haloRd m) cells duties) $$ HX with ⟨Hst, Hr, Hat, Htok⟩
  imod (wmInv_alloc (emb := EW) (⟨m, fun _ => 0, ρ⟩ : MemSt nD τ sig (Elt F)) (E := Set.univ)) $$ HW with ⟨%ιw, -, #Hw⟩
  imodintro
  isplitl [HP]; · iexact HP
  ihave Hst := (Entails.of_eq (over_cells fun g => roundState ER (haloRd m) g 0)) $$ Hst
  ihave Hat := (Entails.of_eq (over_cells fun g => atPos ER g 0 ∅ 0)) $$ Hat
  ihave Hr := (Entails.of_eq (over_cells fun g => reached ER g 0)) $$ Hr
  ihave Htok := (Entails.of_eq over_duties) $$ Htok
  unfold dealt; simp only [bigSep_sep']
  isplitl [Hst]; · iexact Hst
  isplitl [Hat Hr]
  · isplitl [Hat] <;> iassumption
  isplitl [Htok]; · iexact Htok
  iapply (BI.bigSep_of_persistent Finset.univ (iprop(∃ ιw : ℕ, wmInv EW ιw) : sProp 𝕄))
  iexists ιw
  iexact Hw

/-! ## The semaphores -/

omit [FloatOps F] in
theorem own_eq (c : Dev nD) : (Pipeline.ownSems0 (Ix := Unit) (Name := ℕ) (U := UU (Elt F)) (Lvl := ℕ) (Val := Elt F) (τ := τ) osem c : sProp 𝕄)
    = iprop(semVal (sndR c) 0 ∗ semVal (sndC c) 0 ∗ semVal (rcvR c) 0 ∗ semVal (rcvC c) 0 ∗ locals c) := by
  rw [Pipeline.ownSems0_eq_of_list c osem [8, 9, 10, 11, 0, 1, 2, 3, 4, 5, 6, 7] (by decide) (by decide)]; rfl
omit [FloatOps F] in
theorem unscoped_eq (c : Dev nD) : (unscopedSems0 c : sProp 𝕄) = semVal (barCell c) 0 := by
  unfold unscopedSems0; rw [bigSep_eq_bigSepL_of_eq [SemLoc.reg barS] (by decide) (by decide)]; rfl

/-- A device's cells opened: invariants for the five, and what it keeps. -/
theorem open_cells (c : Dev nD) :
    iprop(Pipeline.ownSems0 (Ix := Unit) (Name := ℕ) (U := UU (Elt F)) (Lvl := ℕ) (Val := Elt F) (τ := τ) osem c ∗ unscopedSems0 c ∗ dealt m c)
      ⊢ |={Set.univ}=> iprop((bigSep Finset.univ fun k : Fin 5 => iprop(∃ κ : ℕ, cellInv ER (haloRd m) κ (kcell (c, k))))
          ∗ (bigSep Finset.univ fun k : Fin 5 => iprop(atPos ER (kcell (c, k)) 0 ∅ 0 ∗ reached ER (kcell (c, k)) 0)) ∗ minted c
          ∗ locals c ∗ ∃ ιw : ℕ, wmInv EW ιw) := by
  rw [own_eq, unscoped_eq]
  unfold dealt
  have hal : iprop((bigSep Finset.univ fun k : Fin 5 => semVal (kcell (c, k)) 0) ∗ bigSep Finset.univ fun k : Fin 5 => roundState ER (haloRd m) (kcell (c, k)) 0)
      ⊢ (|={Set.univ}=> bigSep Finset.univ fun k : Fin 5 => iprop(∃ κ : ℕ, cellInv ER (haloRd m) κ (kcell (c, k))) : sProp 𝕄) := by
    rw [← bigSep_sep']
    exact (bigSep_mono fun k _ => (Rounds.body_intro ER (haloRd m) (kcell (c, k))).trans inv_alloc).trans (bigSep_fupd _ _)
  iintro ⟨⟨H1, H2, H3, H4, Hloc⟩, H0, Hst, Hat, Htok, Hw⟩
  imod hal $$ [H0 H1 H2 H3 H4 Hst] with Hinv
  · isplitr [Hst]
    · rw [five]
      isplitl [H0]; · iexact H0
      isplitl [H1]; · iexact H1
      isplitl [H2]; · iexact H2
      isplitl [H3]; · iexact H3
      iexact H4
    iexact Hst
  imodintro
  isplitl [Hinv]; · iexact Hinv
  isplitl [Hat]; · iexact Hat
  isplitl [Htok]; · iexact Htok
  isplitl [Hloc]; · iexact Hloc
  iexact Hw

/-- All the mesh's invariants and marks. -/
def book (K : Dev nD × Fin 5 → ℕ) : sProp 𝕄 :=
  iprop((bigSep Finset.univ fun ck : Dev nD × Fin 5 => cellInv ER (haloRd m) (K ck) (kcell ck))
    ∗ bigSep Finset.univ fun ck : Dev nD × Fin 5 => reached ER (kcell ck) 0)

instance book_persistent (K : Dev nD × Fin 5 → ℕ) : BI.Persistent (book m K) := by unfold book; infer_instance

theorem look_inv (K : Dev nD × Fin 5 → ℕ) (ck : Dev nD × Fin 5) :
    (bigSep Finset.univ fun ck : Dev nD × Fin 5 => (cellInv ER (haloRd m) (K ck) (kcell ck) : sProp 𝕄)) ⊢ cellInv ER (haloRd m) (K ck) (kcell ck) :=
  bigSep_elim (Finset.mem_univ ck)
omit [FloatOps F] in
theorem look_mark (ck : Dev nD × Fin 5) :
    (bigSep Finset.univ fun ck : Dev nD × Fin 5 => (reached ER (kcell ck) 0 : sProp 𝕄)) ⊢ reached ER (kcell ck) 0 :=
  bigSep_elim (Finset.mem_univ ck)

theorem from_book (K : Dev nD × Fin 5 → ℕ) (c : Dev nD) : iprop(book m K ∗ alone c) ⊢ protocol m c := by
  unfold book protocol known marks
  iintro ⟨⟨#HI, #HR⟩, Ha⟩
  iexists K
  isplitr
  · isplitr; · iapply (look_inv m K (c, 0)); iexact HI
    isplitr; · iapply (look_inv m K (c, 1)); iexact HI
    isplitr; · iapply (look_inv m K (c, 2)); iexact HI
    isplitr; · iapply (look_inv m K (c, 3)); iexact HI
    isplitr; · iapply (look_inv m K (c, 4)); iexact HI
    isplitr; · iapply (look_inv m K (rx c, 0)); iexact HI
    isplitr; · iapply (look_inv m K (cy c, 0)); iexact HI
    isplitr; · iapply (look_inv m K (rx c, 3)); iexact HI
    iapply (look_inv m K (cy c, 4)); iexact HI
  isplitr
  · isplitr; · iapply (look_mark (F := F) (rx c, 0)); iexact HR
    isplitr; · iapply (look_mark (F := F) (cy c, 0)); iexact HR
    isplitr; · iapply (look_mark (F := F) (c, 1)); iexact HR
    isplitr; · iapply (look_mark (F := F) (c, 2)); iexact HR
    isplitr; · iapply (look_mark (F := F) (c, 3)); iexact HR
    iapply (look_mark (F := F) (c, 4)); iexact HR
  iexact Ha

omit [FloatOps F] in
/-- The duties dealt to who pays them: the barrier's from above or below and the row arrivals across the rows, the other
barrier duty and the column arrivals across the columns. -/
theorem pass_duties : (bigSep Finset.univ fun c : Dev nD => (minted c : sProp 𝕄)) ⊢ bigSep Finset.univ fun c : Dev nD => paid c := by
  unfold minted paid
  simp only [bigSep_sep']
  rw [bigSep_univ_equiv colSwap (fun c : Dev nD => (dutyTok ER (barCell c) 0 false : sProp 𝕄)),
    bigSep_univ_equiv rowSwap (fun c : Dev nD => (dutyTok ER (barCell c) 0 true : sProp 𝕄)),
    bigSep_univ_equiv rowSwap (fun c : Dev nD => (dutyTok ER (rcvR c) 0 false : sProp 𝕄)),
    bigSep_univ_equiv colSwap (fun c : Dev nD => (dutyTok ER (rcvC c) 0 false : sProp 𝕄))]
  exact BIBase.Entails.refl

omit [FloatOps F] in
theorem with_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine (sep_mono_left (BI.bigSep_of_persistent S R)).trans ?_
  rw [← bigSep_sep']; exact bigSep_mono h

theorem regroup :
    (bigSep Finset.univ fun c : Dev nD => iprop((bigSep Finset.univ fun k : Fin 5 => iprop(∃ κ : ℕ, cellInv ER (haloRd m) κ (kcell (c, k))))
          ∗ (bigSep Finset.univ fun k : Fin 5 => iprop(atPos ER (kcell (c, k)) 0 ∅ 0 ∗ reached ER (kcell (c, k)) 0)) ∗ minted c
          ∗ locals c ∗ ∃ ιw : ℕ, wmInv EW ιw) : sProp 𝕄)
      ⊢ bigSep Finset.univ (protocol m) := by
  rw [bigSep_sep', bigSep_sep', bigSep_sep', ← bigSep_univ_prod (fun ck : Dev nD × Fin 5 => iprop(∃ κ : ℕ, cellInv ER (haloRd m) κ (kcell ck))),
    bigSep_congr (s := Finset.univ) (fun (c : Dev nD) _ => bigSep_sep' Finset.univ (fun k : Fin 5 => (atPos ER (kcell (c, k)) 0 ∅ 0 : sProp 𝕄)) (fun k => reached ER (kcell (c, k)) 0)),
    bigSep_sep', ← bigSep_univ_prod (fun ck : Dev nD × Fin 5 => (reached ER (kcell ck) 0 : sProp 𝕄))]
  iintro ⟨HI, ⟨Hat, #HR⟩, Htok, Hlw⟩
  ihave HK := (BI.bigSep_exists_pi Finset.univ (fun (ck : Dev nD × Fin 5) (κ : ℕ) => (cellInv ER (haloRd m) κ (kcell ck) : sProp 𝕄))) $$ HI
  icases HK with ⟨%K, #HI⟩
  ihave Htk := (pass_duties (F := F)) $$ Htok
  iapply (with_all (R := book m K) fun c _ => from_book m K c)
  isplitr
  · unfold book
    isplitl; · iexact HI
    iexact HR
  · have hgo : (iprop((bigSep Finset.univ fun c : Dev nD => bigSep Finset.univ fun k : Fin 5 => (atPos ER (kcell (c, k)) 0 ∅ 0 : sProp 𝕄))
        ∗ (bigSep Finset.univ fun c : Dev nD => paid c) ∗ bigSep Finset.univ fun c : Dev nD => iprop(locals c ∗ ∃ ιw : ℕ, wmInv EW ιw)) : sProp 𝕄)
        ⊢ bigSep Finset.univ fun c : Dev nD => alone c := by
      have h1 (c : Dev nD) : (iprop((bigSep Finset.univ fun k : Fin 5 => (atPos ER (kcell (c, k)) 0 ∅ 0 : sProp 𝕄)) ∗ paid c ∗ locals c ∗ ∃ ιw : ℕ, wmInv EW ιw) : sProp 𝕄) ⊢ alone c := by
        unfold alone places; rw [five]
      rw [← bigSep_sep', ← bigSep_sep']
      exact bigSep_mono fun c _ => h1 c
    iapply hgo
    isplitl [Hat]; · iexact Hat
    isplitl [Htk]; · iexact Htk
    iexact Hlw

theorem deal_all : (bigSep Finset.univ fun c => iprop(Pipeline.ownSems0 (Ix := Unit) (Name := ℕ) (U := UU (Elt F)) (Lvl := ℕ) (Val := Elt F) (τ := τ) osem c ∗ unscopedSems0 c ∗ dealt m c) : sProp 𝕄)
    ⊢ |={Set.univ}=> bigSep Finset.univ (protocol m) :=
  ((bigSep_mono fun c _ => open_cells m c).trans (bigSep_fupd _ _)).trans (BI.fupd_mono (regroup m))

/-! ## The launch's credit -/

theorem same_dev {a b : Dev nD} {s : SemLoc sig} (h : (((a : Thread nD τ), s) : GSem nD τ sig) = ((b : Thread nD τ), s)) : a = b :=
  congrArg (fun g : GSem nD τ sig => g.1.1) h

/-- What a device owes a cell of another. -/
theorem tally_at (s : SemLoc sig) (a b : Dev nD) (n : ℕ) :
    (tallyAt ((a : Thread nD τ), s) () n : CellTallies nD τ sig Unit) ((b : Thread nD τ), s) () = if b = a then n else 0 := by
  rw [tallyAt_apply]
  by_cases h : b = a
  · subst h; rw [if_pos ⟨rfl, rfl⟩, if_pos rfl]
  · rw [if_neg h]; exact if_neg fun h' => h (same_dev h'.1)
theorem tally_off {s t : SemLoc sig} (hst : s ≠ t) (a b : Dev nD) (n : ℕ) :
    (tallyAt ((a : Thread nD τ), s) () n : CellTallies nD τ sig Unit) ((b : Thread nD τ), t) () = 0 := by
  rw [tallyAt_apply]; exact if_neg fun h' => hst (congrArg Prod.snd h'.1).symm

theorem cy_iff (d c : Dev nD) : c = cy d ↔ d = cy c := ⟨fun h => by rw [h, cy_cy], fun h => by rw [h, cy_cy]⟩
theorem rx_iff (d c : Dev nD) : c = rx d ↔ d = rx c := ⟨fun h => by rw [h, rx_rx], fun h => by rw [h, rx_rx]⟩

theorem owed_eq (d : Dev nD) (g : GSem nD τ sig) : O₀ d g ()
    = (tallyAt (rcvC (cy d)) () NC : CellTallies nD τ sig Unit) g () + (tallyAt (rcvR (rx d)) () NR : CellTallies nD τ sig Unit) g ()
      + (tallyAt (barCell (cy d)) () 1 : CellTallies nD τ sig Unit) g () + (tallyAt (barCell (rx d)) () 1 : CellTallies nD τ sig Unit) g () := by
  unfold O₀ O₁ O₂; rfl

theorem owed_bar (d c : Dev nD) : O₀ d (barCell c) () = (if d = cy c then 1 else 0) + (if d = rx c then 1 else 0) := by
  rw [owed_eq, tally_off (dma_ne_bar _), tally_off (dma_ne_bar _), tally_at, tally_at, Nat.zero_add]
  simp only [cy_iff d c, rx_iff d c]
theorem owed_row (d c : Dev nD) : O₀ d (rcvR c) () = if d = rx c then NR else 0 := by
  rw [owed_eq, tally_off (dma_ne (by decide)), tally_at, tally_off (dma_ne_bar _).symm, tally_off (dma_ne_bar _).symm, Nat.zero_add, Nat.add_zero]
  simp only [rx_iff d c]
theorem owed_col (d c : Dev nD) : O₀ d (rcvC c) () = if d = cy c then NC else 0 := by
  rw [owed_eq, tally_at, tally_off (dma_ne (by decide)), tally_off (dma_ne_bar _).symm, tally_off (dma_ne_bar _).symm, Nat.add_zero]
  simp only [cy_iff d c]

theorem credit_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (cy c) fun _ => 1, Finset.sum_ite_eq' Finset.univ (rx c) fun _ => 1, if_pos (Finset.mem_univ _), if_pos (Finset.mem_univ _)]
theorem credit_row (c : Dev nD) :
    tallyOn (rcvR c) (launchCredit (Pipeline.owing O₀) 0 (rcvR c)) = (tallyAt (rcvR c) () NR : CellTallies nD τ sig Unit) := by
  unfold tallyAt; refine congrArg _ (Finsupp.ext fun u => ?_); cases u
  rw [Pipeline.launchCredit_owing, Finsupp.single_eq_same, Finset.sum_congr rfl fun d _ => owed_row d c,
    Finset.sum_ite_eq' Finset.univ (rx c) fun _ => NR, if_pos (Finset.mem_univ _)]
theorem credit_col (c : Dev nD) :
    tallyOn (rcvC c) (launchCredit (Pipeline.owing O₀) 0 (rcvC c)) = (tallyAt (rcvC c) () NC : CellTallies nD τ sig Unit) := by
  unfold tallyAt; refine congrArg _ (Finsupp.ext fun u => ?_); cases u
  rw [Pipeline.launchCredit_owing, Finsupp.single_eq_same, Finset.sum_congr rfl fun d _ => owed_col d c,
    Finset.sum_ite_eq' Finset.univ (cy c) fun _ => NC, if_pos (Finset.mem_univ _)]

omit [FloatOps F] in
theorem credits (c : Dev nD) : (Pipeline.launchCred O₀ c : sProp 𝕄)
    ⊢ iprop(cred (tallyAt (barCell c) () 2) ∗ cred (tallyAt (rcvR c) () NR) ∗ cred (tallyAt (rcvC c) () NC)) := by
  unfold Pipeline.launchCred
  rw [bigSep_univ_at _ (SemLoc.reg barS), credit_bar]
  refine sep_mono_right ?_
  rw [BI.bigSep_erase (Finset.mem_erase.mpr ⟨dma_ne_bar (dS 10), Finset.mem_univ (SemLoc.dma (dS 10))⟩), credit_row]
  refine sep_mono_right ?_
  rw [← credit_col]
  exact bigSep_elim (Finset.mem_erase.mpr ⟨dma_ne (by decide), Finset.mem_erase.mpr ⟨dma_ne_bar (dS 11), Finset.mem_univ _⟩⟩)

/-! ## The run -/

omit [FloatOps F] in
theorem pts_whole (c : Dev nD) (b : Ref sig .tc) (q : PosShare TreeShare) (f : Buf (Elt F) ((c : Thread nD τ).loc b)) :
    (pts c b q f : sProp 𝕄) = (((c : Thread nD τ).loc b) ↦{q} f) := by unfold pts; rw [View.set_whole]
omit [FloatOps F] in
theorem scratch_eq (c : Dev nD) :
    (Pipeline.scopedRest (Ix := Unit) (Name := ℕ) (U := UU (Elt F)) (Lvl := ℕ) (Val := Elt F) (cfg0.spec) c : sProp 𝕄) = scratch c := by
  rw [scopedRest0_eq]; unfold scratch; simp only [pts_whole]

theorem enter (c : Dev nD) :
    iprop(Pipeline.unscopedRestP Pipeline.Prefetch.none cfg0.spec c (fun b => m ((c : Thread nD τ).loc b)) ∗ levAts L lv
        ∗ Pipeline.launchCred O₀ c ∗ prngReg c (ρ c) ∗ protocol m c)
      ⊢ |={Set.univ}=> iprop(begins m c ∗ emp) := by
  rw [Pipeline.unscopedRestP_none, unscopedRest0_eq, ← pts_whole, ← pts_whole]
  iintro ⟨⟨Hx, Ho⟩, Hlev, Hcr, -, HG⟩
  ihave Hc := (credits (F := F) c) $$ Hcr
  icases Hc with ⟨H1, H2, H3⟩
  imodintro
  unfold begins
  isplitl
  · isplitl [HG]; · iexact HG
    isplitl [H1]; · iexact H1
    isplitl [H2]; · iexact H2
    isplitl [H3]; · iexact H3
    isplitl [Hlev]; · iexact Hlev
    isplitl [Hx]; · iexact Hx
    iexact Ho
  · iempintro

theorem come_in (c : Dev nD) :
    iprop(begins m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(begins m c ∗ scratch c) from rfl, scratch_eq]
  iintro ⟨Hs, -, Hr⟩
  isplitl [Hs]; · iexact Hs
  iexact Hr

theorem go_out (c : Dev nD) :
    (dats m 0 c).Φ (Fin.last cfg0.N) ⊢ iprop(shown m c ∗ Pipeline.ownSems0 osem c ∗ Pipeline.scopedRest cfg0.spec c) := by
  rw [show (dats m 0 c).Φ (Fin.last cfg0.N) = ended m c from rfl, scratch_eq, own_eq]
  unfold ended
  exact BIBase.Entails.refl

theorem may_wait (c : Dev nD) : (levAts L lv : sProp 𝕄) ⊢ Pipeline.cellsWaits cfgs (dats m) () 0 c :=
  Pipeline.cellsWaits_intro cfgs (dats m) () 0 c fun w => w.elim0

/-- A buffer held whole, read against the memory. -/
theorem read_one (c : Dev nD) (b : Ref sig .tc) (f : Buf (Elt F) ((c : Thread nD τ).loc b)) (s' : Phys nD τ sig (Elt F)) :
    (iprop(pts c b fullShare f ∗ SI s') : sProp 𝕄) ⊢ iprop(⌜s'.mem.mem ((c : Thread nD τ).loc b) = f⌝ ∗ SI s') := by
  have h := pointsTo_read_all (Ix := Unit) (Name := ℕ) (U := UU (Elt F)) (Lvl := ℕ) ({()} : Finset Unit) (fun _ => (c : Thread nD τ).loc b) (fun _ => f) s'
  rw [bigSep_singleton] at h
  rw [pts_whole]
  refine h.trans ?_
  iintro ⟨%h, HSI⟩
  isplitr; · ipureintro; exact h () (Finset.mem_singleton_self _)
  iexact HSI

/-- What is read off a device at the end. -/
def Ends (c : Dev nD) (s : MemSt nD τ sig (Elt F)) : Prop :=
  s.mem ((c : Thread nD τ).loc main_v1) = spec m c ∧ s.mem ((c : Thread nD τ).loc main_arg0) = m ((c : Thread nD τ).loc main_arg0)
    ∧ ∀ sm : SemLoc sig, sm.isScoped .tc = false → s.sem ((c.tc : Thread nD τ), sm) = 0

theorem read_end (c : Dev nD) (s' : Phys nD τ sig (Elt F)) :
    (iprop(shown m c ∗ emp ∗ SI s') : sProp 𝕄) ⊢ |={Set.univ}=> iprop(⌜Ends m c s'.mem⌝ ∗ SI s') := by
  unfold shown
  iintro ⟨⟨HB, Hx, Ho⟩, -, HSI⟩
  ihave H := (read_one c main_arg0 (xin m c) s') $$ [Hx HSI]
  · isplitl [Hx] <;> iassumption
  icases H with ⟨%hx, HSI⟩
  ihave H := (read_one c main_v1 (spec m c) s') $$ [Ho HSI]
  · isplitl [Ho] <;> iassumption
  icases H with ⟨%ho, HSI⟩
  ihave HB := (Entails.of_eq (unscoped_eq (F := F) c).symm) $$ HB
  imod (Pipeline.unscopedSems0_read (X := unscopedSems0 c) (c := c) fupd_intro s') $$ [HB HSI] with ⟨%hb, HSI⟩
  · isplitl [HB] <;> iassumption
  imodintro
  isplitr; · ipureintro; exact ⟨ho, hx, hb⟩
  iexact HSI

set_option maxRecDepth 8000 in
/-- On the mesh of four, for any float values and from any memory with its counters at zero: every fair execution ends,
with each device's result its block of the stencil, its argument unchanged and every semaphore at zero. -/
theorem run_main : θ_run defs (onTc (τ := τ) (main (F := F))) (⟨m, fun _ => 0, ρ⟩ : MemSt nD τ sig (Elt F)) (fun r =>
    (∀ c : Dev nD, r.2.mem ((c : Thread nD τ).loc main_v1) = spec m c ∧ r.2.mem ((c : Thread nD τ).loc main_arg0) = m ((c : Thread nD τ).loc main_arg0))
    ∧ r.2.sem = fun _ => 0) :=
  Pipeline.θ_run_region_owing_glob_pf (fun p => (cfgs p).toPCfg) (fun p => (cfgs p).toPCfg_adm) (dats m) () cellOf_inj (0 : Fin 1)
    winFacts0.to₀ osem_facts (Pipeline.PreFacts.none _) EP defs₀ Variants.none m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := may_wait m)
    (G := dealt m) (G' := protocol m) (u₀ := u₀) (hu₀ := deal m ρ) (hglob := deal_all m)
    (hA := fun _ w => w.elim0) (hpf := fun _ k => k.elim0)
    (X := begins m) (Y := shown m) (Z := fun _ => iprop(emp))
    (hX := enter m ρ) (hin := come_in m) (hout := go_out m)
    (QY := Ends m) (hY := read_end m)
    (hQ := fun _ h hs => ⟨fun c => ⟨(h c).2.2.1, (h c).2.2.2.1⟩, sem_eq_zero hs fun c => (h c).2.2.2.2⟩)

end Cert.KernelIdeal.Halo

end
-- ==== Proof.Agree.lean ====
module

public import Idealize.ShloMosaic.Lib.Routing.OpsOne
public import Idealize.ShloMosaic.Lib.IdealHost
public import proofs.«01_k».proof.Proof.KernelIdeal.Spec
public import proofs.«01_k».proof.Proof.Gen.ReferenceIdeal.Run

@[expose] public section

noncomputable section

namespace Cert.Agree

open Idealize.ShloMosaic Idealize.ShloMosaic.ValueIdx Idealize.ShloMosaic.Routing Idealize.ShloMosaic.TcCoe

/-! ## A window written at one start -/

/-- The entry of the window that lands at `(r, c)`, for a window written at row 1 and column 1. -/
theorem window_lands {A B P Q : ℕ} (d : ScatterDims (shape2 A B) (shape1 2) (shape2 P Q)) (hu : d.updateWindowDims = [0, 1])
    (hiw : d.insertedWindowDims = []) (hsd : d.scatterDimsToOperandDims = [0, 1]) (hivd : d.indexVectorDim = 0) (idx : IVec (shape1 2) 32)
    (h0 : (idx (ix1 (0 : Fin 2))).toInt = 1) (h1 : (idx (ix1 (1 : Fin 2))).toInt = 1) (p : Fin P) (q : Fin Q) (r : Fin A) (c : Fin B) :
    d.resultIdx? (ix2 p q) idx = some (ix2 r c) ↔ r.val = p.val + 1 ∧ c.val = q.val + 1 := by
  have hk : d.sKept = [0, 1] := by
    show (shape2 A B).kept d.insertedWindowDims = _
    rw [hiw]
    rfl
  have hw0 : d.window (ix2 p q) 0 = p.val := by
    unfold ScatterDims.window
    rw [dif_pos (by rw [hk]; simp)]
    have e : ∀ X : Fin 2, X = 0 → ((ix2 p q : (shape2 P Q).Idx) X).val = p.val := by rintro _ rfl; rfl
    refine e _ ?_
    simp [hk, hu]
  have hw1 : d.window (ix2 p q) 1 = q.val := by
    unfold ScatterDims.window
    rw [dif_pos (by rw [hk]; simp)]
    have e : ∀ X : Fin 2, X = 1 → ((ix2 p q : (shape2 P Q).Idx) X).val = q.val := by rintro _ rfl; rfl
    refine e _ ?_
    simp [hk, hu]
  rw [resultIdx?_ix2, start_pair d hsd hivd, start_pair d hsd hivd, hw0, hw1, h0, h1]
  omega

/-- A matrix with a window written at row 1 and column 1, read inside the window. -/
theorem window_in {α : Type} {A B P Q : ℕ} (d : ScatterDims (shape2 A B) (shape1 2) (shape2 P Q)) (hu : d.updateWindowDims = [0, 1])
    (hiw : d.insertedWindowDims = []) (hsd : d.scatterDimsToOperandDims = [0, 1]) (hivd : d.indexVectorDim = 0) (idx : IVec (shape1 2) 32)
    (h0 : (idx (ix1 (0 : Fin 2))).toInt = 1) (h1 : (idx (ix1 (1 : Fin 2))).toInt = 1) (x : (shape2 A B).Idx → α) (y : (shape2 P Q).Idx → α)
    (p : Fin P) (q : Fin Q) (r : Fin A) (c : Fin B) (hr : r.val = p.val + 1) (hc : c.val = q.val + 1) :
    Host.scatter d (fun _ b => b) x idx y (ix2 r c) = y (ix2 p q) := by
  refine scatter_set_hit d x idx y _ _ (fun k hk => ?_) (ix2 p q) ((window_lands d hu hiw hsd hivd idx h0 h1 p q r c).2 ⟨hr, hc⟩)
  obtain ⟨p', q', rfl⟩ : ∃ (p' : Fin P) (q' : Fin Q), k = ix2 p' q' := ⟨k 0, k 1, eq_ix2 k⟩
  have e := (window_lands d hu hiw hsd hivd idx h0 h1 p' q' r c).1 hk
  have ep : p' = p := Fin.ext (by omega)
  have eq : q' = q := Fin.ext (by omega)
  rw [ep, eq]

/-- The same matrix read where no entry of the window lands. -/
theorem window_out {α : Type} {A B P Q : ℕ} (d : ScatterDims (shape2 A B) (shape1 2) (shape2 P Q)) (hu : d.updateWindowDims = [0, 1])
    (hiw : d.insertedWindowDims = []) (hsd : d.scatterDimsToOperandDims = [0, 1]) (hivd : d.indexVectorDim = 0) (idx : IVec (shape1 2) 32)
    (h0 : (idx (ix1 (0 : Fin 2))).toInt = 1) (h1 : (idx (ix1 (1 : Fin 2))).toInt = 1) (x : (shape2 A B).Idx → α) (y : (shape2 P Q).Idx → α)
    (r : Fin A) (c : Fin B) (h : r.val = 0 ∨ P < r.val ∨ c.val = 0 ∨ Q < c.val) :
    Host.scatter d (fun _ b => b) x idx y (ix2 r c) = x (ix2 r c) := by
  refine scatter_set_miss d x idx y _ fun k hk => ?_
  obtain ⟨p', q', rfl⟩ : ∃ (p' : Fin P) (q' : Fin Q), k = ix2 p' q' := ⟨k 0, k 1, eq_ix2 k⟩
  have e := (window_lands d hu hiw hsd hivd idx h0 h1 p' q' r c).1 hk
  have := p'.isLt
  have := q'.isLt
  omega

/-! ## The weights -/

theorem half_bf16 : Ideal.ofBits .bf16 0x3F00#16 = (((1 : ℝ) / 2 : ℝ) : EReal) := by
  simp [Ideal.ofBits, Ideal.ieee, -EReal.coe_mul]; norm_num
theorem half_f32 : Ideal.ofBits .f32 0x3F000000#32 = (((1 : ℝ) / 2 : ℝ) : EReal) := by
  simp [Ideal.ofBits, Ideal.ieee, -EReal.coe_mul]; norm_num
theorem eighth_bf16 : Ideal.ofBits .bf16 0x3E00#16 = (((1 : ℝ) / 8 : ℝ) : EReal) := by
  simp [Ideal.ofBits, Ideal.ieee, -EReal.coe_mul]; norm_num
theorem eighth_f32 : Ideal.ofBits .f32 0x3E000000#32 = (((1 : ℝ) / 8 : ℝ) : EReal) := by
  simp [Ideal.ofBits, Ideal.ieee, -EReal.coe_mul]; norm_num

/-- A nonnegative real factor goes over a sum of extended reals. -/
theorem mul_add_real (k : ℝ) (hk : 0 ≤ k) (a b : EReal) : (k : EReal) * (a + b) = (k : EReal) * a + (k : EReal) * b :=
  EReal.left_distrib_of_nonneg_of_ne_top (EReal.coe_nonneg.2 hk) (EReal.coe_ne_top k) a b

/-- One point of the stencil, its four neighbours weighed one by one. -/
theorem sten_eq (ce up dn lf rt : EReal) :
    KernelIdeal.Halo.sten (F := Ideal) ce up dn lf rt
      = (((Ideal.ofBits .f32 0x3F000000#32 * ce + Ideal.ofBits .f32 0x3E000000#32 * up) + Ideal.ofBits .f32 0x3E000000#32 * dn)
          + Ideal.ofBits .f32 0x3E000000#32 * lf) + Ideal.ofBits .f32 0x3E000000#32 * rt := by
  show Ideal.ofBits .bf16 0x3F00#16 * ce + Ideal.ofBits .bf16 0x3E00#16 * ((up + dn) + (lf + rt)) = _
  rw [half_bf16, half_f32, eighth_bf16, eighth_f32]
  have k0 : (0 : ℝ) ≤ 1 / 8 := by norm_num
  rw [mul_add_real _ k0, mul_add_real _ k0 up dn, mul_add_real _ k0 lf rt]
  simp only [add_assoc]

end Cert.Agree

end

end
-- ==== Proof.Match.lean ====
module

public import proofs.«01_k».proof.Proof.Agree

@[expose] public section

noncomputable section

namespace Cert.Agree

open Idealize.ShloMosaic Idealize.ShloMosaic.ValueIdx Idealize.ShloMosaic.Routing Idealize.ShloMosaic.TcCoe
open Cert.ReferenceIdeal Cert.ReferenceIdeal.Gen

/-- A whole array of extended reals. -/
abbrev Arr := (⟨2, ![6144, 6144]⟩ : Shape).Idx → EReal

/-- Its element at row `i`, column `j` (taken modulo its extents). -/
def gx (X : Arr) (i j : ℕ) : EReal := X (ix2 ⟨i % 6144, Nat.mod_lt _ (by decide)⟩ ⟨j % 6144, Nat.mod_lt _ (by decide)⟩)

/-- The interior's sums. -/
def inner (X : FVec Ideal S6144x6144 .f32) : FVec Ideal S6142x6142 .f32 :=
  addf (addf (addf (addf (mulf (broadcastInDim S6142x6142 ![] bcast_S_S6142x6142 (constant S_ .f32 0x3F000000#32)) (extractStridedSlice S6142x6142 ![1, 1] X slices_S6144x6144_S6142x6142_1_1))
    (mulf (broadcastInDim S6142x6142 ![] bcast_S_S6142x6142 (constant S_ .f32 0x3E000000#32)) (extractStridedSlice S6142x6142 ![0, 1] X slices_S6144x6144_S6142x6142_0_1)))
    (mulf (broadcastInDim S6142x6142 ![] bcast_S_S6142x6142 (constant S_ .f32 0x3E000000#32)) (extractStridedSlice S6142x6142 ![2, 1] X slices_S6144x6144_S6142x6142_2_1)))
    (mulf (broadcastInDim S6142x6142 ![] bcast_S_S6142x6142 (constant S_ .f32 0x3E000000#32)) (extractStridedSlice S6142x6142 ![1, 0] X slices_S6144x6144_S6142x6142_1_0)))
    (mulf (broadcastInDim S6142x6142 ![] bcast_S_S6142x6142 (constant S_ .f32 0x3E000000#32)) (extractStridedSlice S6142x6142 ![1, 2] X slices_S6144x6144_S6142x6142_1_2))

/-- Where the interior is written. -/
def corner : IVec S2 32 :=
  concatenate S2 0 [⟨S1, (broadcastInDim S1 ![] bcast_S_S1 (constantI S_ 32 1#32))⟩, ⟨S1, (broadcastInDim S1 ![] bcast_S_S1 (constantI S_ 32 1#32))⟩] concatenates_S1_S1_S2_d0

/-- The reference's result of the array `X`. -/
def refOut (X : FVec Ideal S6144x6144 .f32) : FVec Ideal S6144x6144 .bf16 :=
  truncf .bf16 (Host.scatter scatter_S6144x6144_S2_S6142x6142_01_n_01_0 (fun _ b => b) X corner (inner X)) bitsLt_bf16_f32

theorem corner0 : (corner (ix1 (0 : Fin 2))).toInt = 1 := by decide
theorem corner1 : (corner (ix1 (1 : Fin 2))).toInt = 1 := by decide

/-- A change of format changes nothing here. -/
theorem truncf_same {s : Shape} (v : FVec Ideal s .f32) (h : FTy.bits .bf16 < FTy.bits .f32) (i : s.Idx) : truncf (F := Ideal) .bf16 v h i = v i := rfl

theorem refOut_apply (X : FVec Ideal S6144x6144 .f32) (i : S6144x6144.Idx) :
    refOut X i = Host.scatter scatter_S6144x6144_S2_S6142x6142_01_n_01_0 (fun _ b => b) X corner (inner X) i := by
  unfold refOut
  exact truncf_same _ _ _

/-- A slice of the whole array read at an entry. -/
theorem slice_at (X : Arr) (a b : ℕ) (h : (⟨2, ![6144, 6144]⟩ : Shape).Slices ![a, b] ⟨2, ![6142, 6142]⟩) (p q : Fin 6142)
    (ha : a ≤ 2) (hb : b ≤ 2) :
    extractStridedSlice (⟨2, ![6142, 6142]⟩ : Shape) ![a, b] X h (ix2 p q) = gx X (a + p.val) (b + q.val) := by
  unfold gx
  refine extractStridedSlice_apply _ _ _ _ _ fun i => ?_
  have := p.isLt
  have := q.isLt
  match i with
  | ⟨0, _⟩ => show (a + p.val) % 6144 = a + p.val; omega
  | ⟨1, _⟩ => show (b + q.val) % 6144 = b + q.val; omega

/-- The interior's sum at an entry. -/
theorem inner_at (X : Arr) (p q : Fin 6142) :
    inner X (ix2 p q)
      = (((Ideal.ofBits .f32 0x3F000000#32 * gx X (1 + p.val) (1 + q.val) + Ideal.ofBits .f32 0x3E000000#32 * gx X (0 + p.val) (1 + q.val))
          + Ideal.ofBits .f32 0x3E000000#32 * gx X (2 + p.val) (1 + q.val)) + Ideal.ofBits .f32 0x3E000000#32 * gx X (1 + p.val) (0 + q.val))
          + Ideal.ofBits .f32 0x3E000000#32 * gx X (1 + p.val) (2 + q.val) := by
  rw [← slice_at X 1 1 slices_S6144x6144_S6142x6142_1_1 p q (by omega) (by omega),
    ← slice_at X 0 1 slices_S6144x6144_S6142x6142_0_1 p q (by omega) (by omega),
    ← slice_at X 2 1 slices_S6144x6144_S6142x6142_2_1 p q (by omega) (by omega),
    ← slice_at X 1 0 slices_S6144x6144_S6142x6142_1_0 p q (by omega) (by omega),
    ← slice_at X 1 2 slices_S6144x6144_S6142x6142_1_2 p q (by omega) (by omega)]
  rfl

/-- The reference's result on the border of the array: the array's own element. -/
theorem ref_edge (X : Arr) (r c : Fin 6144) (h : r.val = 0 ∨ r.val = 6143 ∨ c.val = 0 ∨ c.val = 6143) :
    refOut X (ix2 r c) = gx X r.val c.val := by
  have e := window_out scatter_S6144x6144_S2_S6142x6142_01_n_01_0 rfl rfl rfl rfl corner corner0 corner1 X (inner X) r c
    (by have := r.isLt; have := c.isLt; omega)
  rw [refOut_apply, e]
  unfold gx
  exact congrArg₂ (fun a b => X (ix2 a b)) (Fin.ext (Nat.mod_eq_of_lt r.isLt).symm) (Fin.ext (Nat.mod_eq_of_lt c.isLt).symm)

/-- The reference's result inside: one point of the stencil. -/
theorem ref_inner (X : Arr) (r c : Fin 6144) (hr : 0 < r.val) (hr' : r.val < 6143) (hc : 0 < c.val) (hc' : c.val < 6143) :
    refOut X (ix2 r c) = KernelIdeal.Halo.sten (F := Ideal) (gx X r.val c.val) (gx X (r.val - 1) c.val) (gx X (r.val + 1) c.val)
      (gx X r.val (c.val - 1)) (gx X r.val (c.val + 1)) := by
  have e := window_in scatter_S6144x6144_S2_S6142x6142_01_n_01_0 rfl rfl rfl rfl corner corner0 corner1 X (inner X)
    ⟨r.val - 1, by omega⟩ ⟨c.val - 1, by omega⟩ r c (by show r.val = r.val - 1 + 1; omega) (by show c.val = c.val - 1 + 1; omega)
  rw [refOut_apply, e]
  rw [inner_at, sten_eq]
  have a1 : 1 + (r.val - 1) = r.val := by omega
  have a2 : 2 + (r.val - 1) = r.val + 1 := by omega
  have a0 : 0 + (r.val - 1) = r.val - 1 := by omega
  have b1 : 1 + (c.val - 1) = c.val := by omega
  have b2 : 2 + (c.val - 1) = c.val + 1 := by omega
  have b0 : 0 + (c.val - 1) = c.val - 1 := by omega
  dsimp only
  rw [a1, a2, a0, b1, b2, b0]

/-! ## The kernel's blocks -/

theorem coord0 : ∀ c : Fin 4, ((Layout.meshBlock [2, 2] ![[0], [1]] c) 0).val = c.val / 2 := by decide
theorem coord1 : ∀ c : Fin 4, ((Layout.meshBlock [2, 2] ![[0], [1]] c) 1).val = c.val % 2 := by decide

/-- Block `c` of a whole array, read at an entry. -/
theorem block_at (c : Dev KernelIdeal.nD) {α : Type} (v : (⟨2, ![6144, 6144]⟩ : Shape).Idx → α) (i j : Fin 3072) (r s : Fin 6144)
    (hr : r.val = c.val / 2 * 3072 + i.val) (hs : s.val = c.val % 2 * 3072 + j.val) :
    Layout.blockN ⟨2, ![3072, 3072]⟩ ⟨2, ![6144, 6144]⟩ (Layout.meshBlock [2, 2] ![[0], [1]] c) v (by decide) (ix2 i j) = v (ix2 r s) := by
  rw [Layout.blockN_apply]
  refine congrArg v (funext fun a => Fin.ext ?_)
  rw [Layout.TilesN.idx_val]
  match a with
  | ⟨0, _⟩ =>
    show ((Layout.meshBlock [2, 2] ![[0], [1]] c) 0).val * 3072 + i.val = r.val
    rw [coord0, hr]
  | ⟨1, _⟩ =>
    show ((Layout.meshBlock [2, 2] ![[0], [1]] c) 1).val * 3072 + j.val = s.val
    rw [coord1, hs]

/-- Across the row seam, where the neighbour's row stands in the whole array. -/
theorem seam_up (c x R i : ℕ) (hc : c < 4) (hx : x = (c + 2) % 4) (hR : R = c / 2 * 3072 + i) (hi : i = 0) (h0 : 0 < R) :
    R - 1 = x / 2 * 3072 + 3071 ∧ c % 2 = x % 2 := by omega
theorem seam_down (c x R i : ℕ) (hc : c < 4) (hx : x = (c + 2) % 4) (hR : R = c / 2 * 3072 + i) (hi : i = 3071) (h0 : R < 6143) :
    R + 1 = x / 2 * 3072 + 0 ∧ c % 2 = x % 2 := by omega
/-- The same across the column seam. -/
theorem seam_left (c y S j : ℕ) (hc : c < 4) (hy : y = c / 2 * 2 + (1 - c % 2)) (hS : S = c % 2 * 3072 + j) (hj : j = 0) (h0 : 0 < S) :
    S - 1 = y % 2 * 3072 + 3071 ∧ c / 2 = y / 2 := by omega
theorem seam_right (c y S j : ℕ) (hc : c < 4) (hy : y = c / 2 * 2 + (1 - c % 2)) (hS : S = c % 2 * 3072 + j) (hj : j = 3071) (h0 : S < 6143) :
    S + 1 = y % 2 * 3072 + 0 ∧ c / 2 = y / 2 := by omega

variable (m : (ℓ : Loc KernelIdeal.nD KernelIdeal.τ KernelIdeal.sig) → Buf (Elt Ideal) ℓ) (X : Arr)
  (hX : ∀ c : Dev KernelIdeal.nD, m ((c.tc : Thread KernelIdeal.nD KernelIdeal.τ).loc KernelIdeal.main_arg0)
    = Layout.blockN ⟨2, ![3072, 3072]⟩ ⟨2, ![6144, 6144]⟩ (Layout.meshBlock [2, 2] ![[0], [1]] c) X (by decide))

include hX in
/-- An element of a device's block is the whole array's. -/
theorem xb_eq (c : Dev KernelIdeal.nD) (i j a b : ℕ) (hi : i < 3072) (hj : j < 3072) (ha : a = c.val / 2 * 3072 + i) (hb : b = c.val % 2 * 3072 + j) :
    KernelIdeal.Halo.xb (F := Ideal) m c i j = gx X a b := by
  have hc : c.val < 4 := c.isLt
  subst ha hb
  unfold KernelIdeal.Halo.xb
  show m ((c.tc : Thread KernelIdeal.nD KernelIdeal.τ).loc KernelIdeal.main_arg0) (ix2 ⟨i % 3072, _⟩ ⟨j % 3072, _⟩) = _
  rw [hX c]
  unfold gx
  exact block_at c X _ _ _ _ (by show (c.val / 2 * 3072 + i) % 6144 = c.val / 2 * 3072 + i % 3072; omega)
    (by show (c.val % 2 * 3072 + j) % 6144 = c.val % 2 * 3072 + j % 3072; omega)

include hX in
/-- What a device computes at an entry of its block is what the reference computes at the entry's place in the whole array. -/
theorem specN_eq (c : Dev KernelIdeal.nD) (i j : ℕ) (hi : i < 3072) (hj : j < 3072) (r s : Fin 6144)
    (hr : r.val = c.val / 2 * 3072 + i) (hs : s.val = c.val % 2 * 3072 + j) :
    KernelIdeal.Halo.specN (F := Ideal) m c i j = refOut X (ix2 r s) := by
  have hc : c.val < 4 := c.isLt
  have hrx : (KernelIdeal.Halo.rx c).val = (c.val + 2) % 4 := rfl
  have hcy : (KernelIdeal.Halo.cy c).val = c.val / 2 * 2 + (1 - c.val % 2) := rfl
  have hrl := r.isLt
  have hsl := s.isLt
  unfold KernelIdeal.Halo.specN
  by_cases he : KernelIdeal.Halo.onEdge c i j
  · rw [if_pos he, xb_eq m X hX c i j r.val s.val hi hj hr hs]
    refine (ref_edge X r s ?_).symm
    unfold KernelIdeal.Halo.onEdge at he
    omega
  · rw [if_neg he]
    unfold KernelIdeal.Halo.onEdge at he
    rw [ref_inner X r s (by omega) (by omega) (by omega) (by omega), xb_eq m X hX c i j r.val s.val hi hj hr hs]
    have e1 : (if i = 0 then KernelIdeal.Halo.xb (F := Ideal) m (KernelIdeal.Halo.rx c) 3071 j else KernelIdeal.Halo.xb (F := Ideal) m c (i - 1) j) = gx X (r.val - 1) s.val := by
      split
      · next h =>
        have k := seam_up c.val _ r.val i hc hrx hr h (by omega)
        exact xb_eq m X hX _ _ _ _ _ (by omega) hj k.1 (by rw [← k.2]; exact hs)
      · exact xb_eq m X hX _ _ _ _ _ (by omega) hj (by omega) (by omega)
    have e2 : (if i = 3071 then KernelIdeal.Halo.xb (F := Ideal) m (KernelIdeal.Halo.rx c) 0 j else KernelIdeal.Halo.xb (F := Ideal) m c (i + 1) j) = gx X (r.val + 1) s.val := by
      split
      · next h =>
        have k := seam_down c.val _ r.val i hc hrx hr h (by omega)
        exact xb_eq m X hX _ _ _ _ _ (by omega) hj k.1 (by rw [← k.2]; exact hs)
      · exact xb_eq m X hX _ _ _ _ _ (by omega) hj (by omega) (by omega)
    have e3 : (if j = 0 then KernelIdeal.Halo.xb (F := Ideal) m (KernelIdeal.Halo.cy c) i 3071 else KernelIdeal.Halo.xb (F := Ideal) m c i (j - 1)) = gx X r.val (s.val - 1) := by
      split
      · next h =>
        have k := seam_left c.val _ s.val j hc hcy hs h (by omega)
        exact xb_eq m X hX _ _ _ _ _ hi (by omega) (by rw [← k.2]; exact hr) k.1
      · exact xb_eq m X hX _ _ _ _ _ hi (by omega) (by omega) (by omega)
    have e4 : (if j = 3071 then KernelIdeal.Halo.xb (F := Ideal) m (KernelIdeal.Halo.cy c) i 0 else KernelIdeal.Halo.xb (F := Ideal) m c i (j + 1)) = gx X r.val (s.val + 1) := by
      split
      · next h =>
        have k := seam_right c.val _ s.val j hc hcy hs h (by omega)
        exact xb_eq m X hX _ _ _ _ _ hi (by omega) (by rw [← k.2]; exact hr) k.1
      · exact xb_eq m X hX _ _ _ _ _ hi (by omega) (by omega) (by omega)
    rw [e1, e2, e3, e4]

include hX in
/-- A device's result is its block of the reference's. -/
theorem spec_eq (c : Dev KernelIdeal.nD) :
    KernelIdeal.Halo.spec (F := Ideal) m c
      = Layout.blockN ⟨2, ![3072, 3072]⟩ ⟨2, ![6144, 6144]⟩ (Layout.meshBlock [2, 2] ![[0], [1]] c) (refOut X) (by decide) := by
  have hc : c.val < 4 := c.isLt
  refine funext fun (i : (⟨2, ![3072, 3072]⟩ : Shape).Idx) => ?_
  obtain ⟨p, q, rfl⟩ : ∃ (p : Fin 3072) (q : Fin 3072), i = ix2 p q := ⟨i 0, i 1, eq_ix2 i⟩
  have hp := p.isLt
  have hq := q.isLt
  rw [block_at c (refOut X) p q ⟨c.val / 2 * 3072 + p.val, by omega⟩ ⟨c.val % 2 * 3072 + q.val, by omega⟩ rfl rfl]
  exact specN_eq m X hX c p.val q.val hp hq _ _ rfl rfl

end Cert.Agree

end

end
-- ==== Proof.lean ====
module

public import proofs.«01_k».proof.Proof.Gen.ReferenceIdeal.Run
public import proofs.«01_k».proof.Defs
public import proofs.«01_k».proof.Proof.Kernel.Run
public import proofs.«01_k».proof.Proof.KernelIdeal.Run
public import proofs.«01_k».proof.Proof.Match
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The kernel at its own float formats terminates, keeps its argument, and leaves every counter at zero. -/
theorem kernel_frame : Cert.quiescent_Kernel (hKernel := Cert.Kernel.Gen.facts) := fun m g _ =>
  (θ_run _ _ _).mono (fun _ h => ⟨fun c => (h.1 c).2, h.2⟩) (Cert.Kernel.Halo.run_main (F := Bits) m g)

/-- The same at ideal floats. -/
theorem ideal_frame : Cert.quiescent_KernelIdeal (hKernelIdeal := Cert.KernelIdeal.Gen.facts) := fun m g _ =>
  (θ_run _ _ _).mono (fun _ h => ⟨fun c => (h.1 c).2, h.2⟩) (Cert.KernelIdeal.Halo.run_main (F := Ideal) m g)

/-- The reference terminates, keeps its argument, and has no counter. -/
theorem ref_frame : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run (F := Ideal) m g)

/-- Every device's result is its block of the reference's. -/
theorem agree : Cert.algebraic_KernelIdeal_ReferenceIdeal (hKernelIdeal := Cert.KernelIdeal.Gen.facts) (hReferenceIdeal := Cert.ReferenceIdeal.Gen.facts) :=
  fun m g m' g' _ hm =>
    ⟨Cert.Agree.refOut (m' (((0 : Dev Cert.ReferenceIdeal.nD).tc : Thread Cert.ReferenceIdeal.nD Cert.ReferenceIdeal.τ).loc Cert.ReferenceIdeal.main_arg0)),
      (θ_run _ _ _).mono (fun _ h c => ⟨(h.1 c).1.trans (Cert.Agree.spec_eq m _ hm c), (h.1 c).2⟩) (Cert.KernelIdeal.Halo.run_main (F := Ideal) m g),
      (θ_run _ _ _).mono (fun _ h => h 0) (Cert.ReferenceIdeal.Value.run (F := Ideal) m' g')⟩

theorem claim : Cert.Claim :=
  ⟨Cert.Kernel.Gen.facts, Cert.KernelIdeal.Gen.facts, Cert.ReferenceIdeal.Gen.facts, kernel_frame, ideal_frame, ref_frame, trivial, agree⟩

end Cert.Proof

end
